-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x100000 : Shape := ⟨2, ![128, 100000]⟩
abbrev S100000x128 : Shape := ⟨2, ![100000, 128]⟩
abbrev S32x2x8x16 : Shape := ⟨4, ![32, 2, 8, 16]⟩
abbrev S368x128 : Shape := ⟨2, ![368, 128]⟩
abbrev S2x8x16 : Shape := ⟨3, ![2, 8, 16]⟩
abbrev S_ : Shape := ⟨0, ![]⟩
abbrev S16 : Shape := ⟨1, ![16]⟩
abbrev S1x16 : Shape := ⟨2, ![1, 16]⟩
abbrev S1x1x16 : Shape := ⟨3, ![1, 1, 16]⟩
abbrev S1x2x8x16 : Shape := ⟨4, ![1, 2, 8, 16]⟩
abbrev S2x128 : Shape := ⟨2, ![2, 128]⟩
abbrev S4000x128 : Shape := ⟨2, ![4000, 128]⟩
abbrev S128 : Shape := ⟨1, ![128]⟩
abbrev S1x128 : Shape := ⟨2, ![1, 128]⟩
abbrev S32x1x8x16 : Shape := ⟨4, ![32, 1, 8, 16]⟩
abbrev S32x8x16 : Shape := ⟨3, ![32, 8, 16]⟩
abbrev S32x128 : Shape := ⟨2, ![32, 128]⟩
abbrev S1x128x1 : Shape := ⟨3, ![1, 128, 1]⟩
abbrev S1 : Shape := ⟨1, ![1]⟩
abbrev S1x1x1 : Shape := ⟨3, ![1, 1, 1]⟩

abbrev nBuf : Table → Nat
  | .hbm => 74
  | .local .tc .vmem => 3
  | .local .scVector .vmem => 3
  | _ => 0

abbrev bufTy : (tb : Table) → Fin (nBuf tb) → BufTy
  | .hbm, ⟨0, _⟩ => ⟨S128x100000, .f32⟩
  | .hbm, ⟨1, _⟩ => ⟨S100000x128, .f32⟩
  | .hbm, ⟨2, _⟩ => ⟨S32x2x8x16, .f32⟩
  | .hbm, ⟨3, _⟩ => ⟨S2x128, .f32⟩
  | .hbm, ⟨4, _⟩ => ⟨S32x1x8x16, .f32⟩
  | .hbm, ⟨5, _⟩ => ⟨S32x8x16, .f32⟩
  | .hbm, ⟨6, _⟩ => ⟨S32x128, .f32⟩
  | .hbm, ⟨7, _⟩ => ⟨S32x1x8x16, .f32⟩
  | .hbm, ⟨8, _⟩ => ⟨S32x8x16, .f32⟩
  | .hbm, ⟨9, _⟩ => ⟨S32x128, .f32⟩
  | .hbm, ⟨10, _⟩ => ⟨S32x128, .i32⟩
  | .hbm, ⟨11, _⟩ => ⟨S_, .f32⟩
  | .hbm, ⟨12, _⟩ => ⟨S_, .i32⟩
  | .hbm, ⟨13, _⟩ => ⟨S128, .f32⟩
  | .hbm, ⟨14, _⟩ => ⟨S128, .i32⟩
  | .hbm, ⟨15, _⟩ => ⟨S1x128, .i32⟩
  | .hbm, ⟨16, _⟩ => ⟨S_, .i32⟩
  | .hbm, ⟨17, _⟩ => ⟨S1x128, .i32⟩
  | .hbm, ⟨18, _⟩ => ⟨S1x128, .i1⟩
  | .hbm, ⟨19, _⟩ => ⟨S_, .i32⟩
  | .hbm, ⟨20, _⟩ => ⟨S1x128, .i32⟩
  | .hbm, ⟨21, _⟩ => ⟨S1x128, .i32⟩
  | .hbm, ⟨22, _⟩ => ⟨S1x128, .i32⟩
  | .hbm, ⟨23, _⟩ => ⟨S1x128x1, .i32⟩
  | .hbm, ⟨24, _⟩ => ⟨S1, .i32⟩
  | .hbm, ⟨25, _⟩ => ⟨S_, .i32⟩
  | .hbm, ⟨26, _⟩ => ⟨S1x128x1, .i32⟩
  | .hbm, ⟨27, _⟩ => ⟨S1x128x1, .i1⟩
  | .hbm, ⟨28, _⟩ => ⟨S1x1x1, .i32⟩
  | .hbm, ⟨29, _⟩ => ⟨S1x128x1, .i32⟩
  | .hbm, ⟨30, _⟩ => ⟨S1x128x1, .i1⟩
  | .hbm, ⟨31, _⟩ => ⟨S1x128x1, .i1⟩
  | .hbm, ⟨32, _⟩ => ⟨S_, .i1⟩
  | .hbm, ⟨33, _⟩ => ⟨S1x128, .i1⟩
  | .hbm, ⟨34, _⟩ => ⟨S1x128, .f32⟩
  | .hbm, ⟨35, _⟩ => ⟨S_, .f32⟩
  | .hbm, ⟨36, _⟩ => ⟨S1x128, .f32⟩
  | .hbm, ⟨37, _⟩ => ⟨S1x128, .f32⟩
  | .hbm, ⟨38, _⟩ => ⟨S128, .f32⟩
  | .hbm, ⟨39, _⟩ => ⟨S1x128, .i32⟩
  | .hbm, ⟨40, _⟩ => ⟨S_, .i32⟩
  | .hbm, ⟨41, _⟩ => ⟨S1x128, .i32⟩
  | .hbm, ⟨42, _⟩ => ⟨S1x128, .i1⟩
  | .hbm, ⟨43, _⟩ => ⟨S_, .i32⟩
  | .hbm, ⟨44, _⟩ => ⟨S1x128, .i32⟩
  | .hbm, ⟨45, _⟩ => ⟨S1x128, .i32⟩
  | .hbm, ⟨46, _⟩ => ⟨S1x128, .i32⟩
  | .hbm, ⟨47, _⟩ => ⟨S1x128x1, .i32⟩
  | .hbm, ⟨48, _⟩ => ⟨S1, .i32⟩
  | .hbm, ⟨49, _⟩ => ⟨S_, .i32⟩
  | .hbm, ⟨50, _⟩ => ⟨S1x128x1, .i32⟩
  | .hbm, ⟨51, _⟩ => ⟨S1x128x1, .i1⟩
  | .hbm, ⟨52, _⟩ => ⟨S1x1x1, .i32⟩
  | .hbm, ⟨53, _⟩ => ⟨S1x128x1, .i32⟩
  | .hbm, ⟨54, _⟩ => ⟨S1x128x1, .i1⟩
  | .hbm, ⟨55, _⟩ => ⟨S1x128x1, .i1⟩
  | .hbm, ⟨56, _⟩ => ⟨S_, .i1⟩
  | .hbm, ⟨57, _⟩ => ⟨S1x128, .i1⟩
  | .hbm, ⟨58, _⟩ => ⟨S1x128, .f32⟩
  | .hbm, ⟨59, _⟩ => ⟨S_, .f32⟩
  | .hbm, ⟨60, _⟩ => ⟨S1x128, .f32⟩
  | .hbm, ⟨61, _⟩ => ⟨S1x128, .f32⟩
  | .hbm, ⟨62, _⟩ => ⟨S128, .f32⟩
  | .hbm, ⟨63, _⟩ => ⟨S1x128, .f32⟩
  | .hbm, ⟨64, _⟩ => ⟨S128, .f32⟩
  | .hbm, ⟨65, _⟩ => ⟨S1x128, .f32⟩
  | .hbm, ⟨66, _⟩ => ⟨S128, .f32⟩
  | .hbm, ⟨67, _⟩ => ⟨S128, .i1⟩
  | .hbm, ⟨68, _⟩ => ⟨S128, .i1⟩
  | .hbm, ⟨69, _⟩ => ⟨S128, .i1⟩
  | .hbm, ⟨70, _⟩ => ⟨S128, .i1⟩
  | .hbm, ⟨71, _⟩ => ⟨S128, .i1⟩
  | .hbm, ⟨72, _⟩ => ⟨S128, .f32⟩
  | .hbm, ⟨73, _⟩ => ⟨S128, .i32⟩
  | .local .tc .vmem, ⟨0, _⟩ => ⟨S4000x128, .f32⟩
  | .local .tc .vmem, ⟨1, _⟩ => ⟨S4000x128, .f32⟩
  | .local .tc .vmem, ⟨2, _⟩ => ⟨S2x128, .f32⟩
  | .local .scVector .vmem, ⟨0, _⟩ => ⟨S368x128, .f32⟩
  | .local .scVector .vmem, ⟨1, _⟩ => ⟨S368x128, .f32⟩
  | .local .scVector .vmem, ⟨2, _⟩ => ⟨S2x8x16, .f32⟩
  | _, _ => ⟨S128x100000, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => true
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_call0_v0 : Ref sig .tc := ⟨.hbm, 10, rfl⟩
abbrev main_call0_cst : Ref sig .tc := ⟨.hbm, 11, rfl⟩
abbrev main_call0_c : Ref sig .tc := ⟨.hbm, 12, rfl⟩
abbrev main_call0_v1_0 : Ref sig .tc := ⟨.hbm, 13, rfl⟩
abbrev main_v9 : Ref sig .tc := ⟨.hbm, 14, rfl⟩
abbrev main_v10 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_c_2 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_3 : Ref sig .tc := ⟨.hbm, 32, rfl⟩
abbrev main_call1_v12 : Ref sig .tc := ⟨.hbm, 33, rfl⟩
abbrev main_call1_v13 : Ref sig .tc := ⟨.hbm, 34, rfl⟩
abbrev main_call1_cst : Ref sig .tc := ⟨.hbm, 35, rfl⟩
abbrev main_call1_v14 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_call2_c : Ref sig .tc := ⟨.hbm, 40, rfl⟩
abbrev main_call2_v0 : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_c_1 : Ref sig .tc := ⟨.hbm, 48, rfl⟩
abbrev main_call2_c_2 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_3 : Ref sig .tc := ⟨.hbm, 56, rfl⟩
abbrev main_call2_v12 : Ref sig .tc := ⟨.hbm, 57, rfl⟩
abbrev main_call2_v13 : Ref sig .tc := ⟨.hbm, 58, rfl⟩
abbrev main_call2_cst : Ref sig .tc := ⟨.hbm, 59, rfl⟩
abbrev main_call2_v14 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v0_scv : Ref sig .scVector := ⟨.hbm, 1, rfl⟩
abbrev main_v1_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1472_i32 : BitVec 32 := 1472#32
  let v2 : BitVec 32 := Scalar.muli v1 c1472_i32
  v2
def k0_mult2 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1472_i32 : BitVec 32 := 1472#32
  let v2 : BitVec 32 := Scalar.muli v1 c1472_i32
  let v3 : BitVec 32 := v2
  let c0_i32_0 : BitVec 32 := 0#32
  let v6 : BitVec 32 := Scalar.addi v3 c0_i32_0
  v6
def k0_off1 (i : grid0.Coords) (c0_i32_0 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1472_i32 : BitVec 32 := 1472#32
  let v2 : BitVec 32 := Scalar.muli v1 c1472_i32
  let v3 : BitVec 32 := v2
  let v6 : BitVec 32 := Scalar.addi v3 c0_i32_0
  let v7 : BitVec 32 := v6
  let c0_i32_1 : BitVec 32 := 0#32
  ![v7.toNat, 0]
def k0_mult3 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1472_i32 : BitVec 32 := 1472#32
  let v2 : BitVec 32 := Scalar.muli v1 c1472_i32
  let v3 : BitVec 32 := v2
  let c368_i32 : BitVec 32 := 368#32
  let v10 : BitVec 32 := Scalar.addi v3 c368_i32
  v10
@[reducible] def k0_t1_loop : Scf.Loop 32 :=
  let c0_i32_7 : BitVec 32 := 0#32
  let c184_i32 : BitVec 32 := 184#32
  let v16 : BitVec 32 := Scalar.addi c0_i32_7 c184_i32
  let c1_i32 : BitVec 32 := 1#32
  ⟨c0_i32_7, v16, c1_i32⟩
def k0_mult4 (k0_t1 : Fin k0_t1_loop.trips) : BitVec 32 :=
  let c0_i32_7 : BitVec 32 := 0#32
  let c1_i32 : BitVec 32 := 1#32
  let arg9 : BitVec 32 := Scf.iv c0_i32_7 c1_i32 k0_t1
  let c2_i32_104 : BitVec 32 := 2#32
  let v278 : BitVec 32 := Scalar.muli arg9 c2_i32_104
  v278
def k0_off2 (k0_t1 : Fin k0_t1_loop.trips) (c0_i32_105 : BitVec 32) : Fin 2 → Nat :=
  let c0_i32_7 : BitVec 32 := 0#32
  let c1_i32 : BitVec 32 := 1#32
  let arg9 : BitVec 32 := Scf.iv c0_i32_7 c1_i32 k0_t1
  let c2_i32_104 : BitVec 32 := 2#32
  let v278 : BitVec 32 := Scalar.muli arg9 c2_i32_104
  let v279 : BitVec 32 := v278
  let v280 : BitVec 32 := Scalar.addi v279 c0_i32_105
  let v281 : Index := Scalar.indexCast v280
  let c0_106 : Index := 0#32
  ![v281.toNat, 0]
def k0_off3 (k0_t1 : Fin k0_t1_loop.trips) (c0_i32_107 : BitVec 32) : Fin 2 → Nat :=
  let c0_i32_7 : BitVec 32 := 0#32
  let c1_i32 : BitVec 32 := 1#32
  let arg9 : BitVec 32 := Scf.iv c0_i32_7 c1_i32 k0_t1
  let c2_i32_104 : BitVec 32 := 2#32
  let v278 : BitVec 32 := Scalar.muli arg9 c2_i32_104
  let v279 : BitVec 32 := v278
  let v287 : BitVec 32 := Scalar.addi v279 c0_i32_107
  let v288 : Index := Scalar.indexCast v287
  let c16 : Index := 16#32
  ![v288.toNat, 16]
def k0_off4 (k0_t1 : Fin k0_t1_loop.trips) (c0_i32_108 : BitVec 32) : Fin 2 → Nat :=
  let c0_i32_7 : BitVec 32 := 0#32
  let c1_i32 : BitVec 32 := 1#32
  let arg9 : BitVec 32 := Scf.iv c0_i32_7 c1_i32 k0_t1
  let c2_i32_104 : BitVec 32 := 2#32
  let v278 : BitVec 32 := Scalar.muli arg9 c2_i32_104
  let v279 : BitVec 32 := v278
  let v294 : BitVec 32 := Scalar.addi v279 c0_i32_108
  let v295 : Index := Scalar.indexCast v294
  let c32 : Index := 32#32
  ![v295.toNat, 32]
def k0_off5 (k0_t1 : Fin k0_t1_loop.trips) (c0_i32_109 : BitVec 32) : Fin 2 → Nat :=
  let c0_i32_7 : BitVec 32 := 0#32
  let c1_i32 : BitVec 32 := 1#32
  let arg9 : BitVec 32 := Scf.iv c0_i32_7 c1_i32 k0_t1
  let c2_i32_104 : BitVec 32 := 2#32
  let v278 : BitVec 32 := Scalar.muli arg9 c2_i32_104
  let v279 : BitVec 32 := v278
  let v301 : BitVec 32 := Scalar.addi v279 c0_i32_109
  let v302 : Index := Scalar.indexCast v301
  let c48 : Index := 48#32
  ![v302.toNat, 48]
def k0_off6 (k0_t1 : Fin k0_t1_loop.trips) (c0_i32_110 : BitVec 32) : Fin 2 → Nat :=
  let c0_i32_7 : BitVec 32 := 0#32
  let c1_i32 : BitVec 32 := 1#32
  let arg9 : BitVec 32 := Scf.iv c0_i32_7 c1_i32 k0_t1
  let c2_i32_104 : BitVec 32 := 2#32
  let v278 : BitVec 32 := Scalar.muli arg9 c2_i32_104
  let v279 : BitVec 32 := v278
  let v308 : BitVec 32 := Scalar.addi v279 c0_i32_110
  let v309 : Index := Scalar.indexCast v308
  let c64 : Index := 64#32
  ![v309.toNat, 64]
def k0_off7 (k0_t1 : Fin k0_t1_loop.trips) (c0_i32_111 : BitVec 32) : Fin 2 → Nat :=
  let c0_i32_7 : BitVec 32 := 0#32
  let c1_i32 : BitVec 32 := 1#32
  let arg9 : BitVec 32 := Scf.iv c0_i32_7 c1_i32 k0_t1
  let c2_i32_104 : BitVec 32 := 2#32
  let v278 : BitVec 32 := Scalar.muli arg9 c2_i32_104
  let v279 : BitVec 32 := v278
  let v315 : BitVec 32 := Scalar.addi v279 c0_i32_111
  let v316 : Index := Scalar.indexCast v315
  let c80 : Index := 80#32
  ![v316.toNat, 80]
def k0_off8 (k0_t1 : Fin k0_t1_loop.trips) (c0_i32_112 : BitVec 32) : Fin 2 → Nat :=
  let c0_i32_7 : BitVec 32 := 0#32
  let c1_i32 : BitVec 32 := 1#32
  let arg9 : BitVec 32 := Scf.iv c0_i32_7 c1_i32 k0_t1
  let c2_i32_104 : BitVec 32 := 2#32
  let v278 : BitVec 32 := Scalar.muli arg9 c2_i32_104
  let v279 : BitVec 32 := v278
  let v322 : BitVec 32 := Scalar.addi v279 c0_i32_112
  let v323 : Index := Scalar.indexCast v322
  let c96 : Index := 96#32
  ![v323.toNat, 96]
def k0_off9 (k0_t1 : Fin k0_t1_loop.trips) (c0_i32_113 : BitVec 32) : Fin 2 → Nat :=
  let c0_i32_7 : BitVec 32 := 0#32
  let c1_i32 : BitVec 32 := 1#32
  let arg9 : BitVec 32 := Scf.iv c0_i32_7 c1_i32 k0_t1
  let c2_i32_104 : BitVec 32 := 2#32
  let v278 : BitVec 32 := Scalar.muli arg9 c2_i32_104
  let v279 : BitVec 32 := v278
  let v329 : BitVec 32 := Scalar.addi v279 c0_i32_113
  let v330 : Index := Scalar.indexCast v329
  let c112 : Index := 112#32
  ![v330.toNat, 112]
def k0_mult5 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1472_i32 : BitVec 32 := 1472#32
  let v2 : BitVec 32 := Scalar.muli v1 c1472_i32
  let v3 : BitVec 32 := v2
  let c736_i32 : BitVec 32 := 736#32
  let v18 : BitVec 32 := Scalar.addi v3 c736_i32
  v18
@[reducible] def k0_t2_loop : Scf.Loop 32 :=
  let c0_i32_13 : BitVec 32 := 0#32
  let c184_i32_14 : BitVec 32 := 184#32
  let v24 : BitVec 32 := Scalar.addi c0_i32_13 c184_i32_14
  let c1_i32_15 : BitVec 32 := 1#32
  ⟨c0_i32_13, v24, c1_i32_15⟩
def k0_mult6 (k0_t2 : Fin k0_t2_loop.trips) : BitVec 32 :=
  let c0_i32_13 : BitVec 32 := 0#32
  let c1_i32_15 : BitVec 32 := 1#32
  let arg9 : BitVec 32 := Scf.iv c0_i32_13 c1_i32_15 k0_t2
  let c2_i32_104 : BitVec 32 := 2#32
  let v278 : BitVec 32 := Scalar.muli arg9 c2_i32_104
  v278
def k0_off10 (k0_t2 : Fin k0_t2_loop.trips) (c0_i32_105 : BitVec 32) : Fin 2 → Nat :=
  let c0_i32_13 : BitVec 32 := 0#32
  let c1_i32_15 : BitVec 32 := 1#32
  let arg9 : BitVec 32 := Scf.iv c0_i32_13 c1_i32_15 k0_t2
  let c2_i32_104 : BitVec 32 := 2#32
  let v278 : BitVec 32 := Scalar.muli arg9 c2_i32_104
  let v279 : BitVec 32 := v278
  let v280 : BitVec 32 := Scalar.addi v279 c0_i32_105
  let v281 : Index := Scalar.indexCast v280
  let c0_106 : Index := 0#32
  ![v281.toNat, 0]
def k0_off11 (k0_t2 : Fin k0_t2_loop.trips) (c0_i32_107 : BitVec 32) : Fin 2 → Nat :=
  let c0_i32_13 : BitVec 32 := 0#32
  let c1_i32_15 : BitVec 32 := 1#32
  let arg9 : BitVec 32 := Scf.iv c0_i32_13 c1_i32_15 k0_t2
  let c2_i32_104 : BitVec 32 := 2#32
  let v278 : BitVec 32 := Scalar.muli arg9 c2_i32_104
  let v279 : BitVec 32 := v278
  let v287 : BitVec 32 := Scalar.addi v279 c0_i32_107
  let v288 : Index := Scalar.indexCast v287
  let c16 : Index := 16#32
  ![v288.toNat, 16]
def k0_off12 (k0_t2 : Fin k0_t2_loop.trips) (c0_i32_108 : BitVec 32) : Fin 2 → Nat :=
  let c0_i32_13 : BitVec 32 := 0#32
  let c1_i32_15 : BitVec 32 := 1#32
  let arg9 : BitVec 32 := Scf.iv c0_i32_13 c1_i32_15 k0_t2
  let c2_i32_104 : BitVec 32 := 2#32
  let v278 : BitVec 32 := Scalar.muli arg9 c2_i32_104
  let v279 : BitVec 32 := v278
  let v294 : BitVec 32 := Scalar.addi v279 c0_i32_108
  let v295 : Index := Scalar.indexCast v294
  let c32 : Index := 32#32
  ![v295.toNat, 32]
def k0_off13 (k0_t2 : Fin k0_t2_loop.trips) (c0_i32_109 : BitVec 32) : Fin 2 → Nat :=
  let c0_i32_13 : BitVec 32 := 0#32
  let c1_i32_15 : BitVec 32 := 1#32
  let arg9 : BitVec 32 := Scf.iv c0_i32_13 c1_i32_15 k0_t2
  let c2_i32_104 : BitVec 32 := 2#32
  let v278 : BitVec 32 := Scalar.muli arg9 c2_i32_104
  let v279 : BitVec 32 := v278
  let v301 : BitVec 32 := Scalar.addi v279 c0_i32_109
  let v302 : Index := Scalar.indexCast v301
  let c48 : Index := 48#32
  ![v302.toNat, 48]
def k0_off14 (k0_t2 : Fin k0_t2_loop.trips) (c0_i32_110 : BitVec 32) : Fin 2 → Nat :=
  let c0_i32_13 : BitVec 32 := 0#32
  let c1_i32_15 : BitVec 32 := 1#32
  let arg9 : BitVec 32 := Scf.iv c0_i32_13 c1_i32_15 k0_t2
  let c2_i32_104 : BitVec 32 := 2#32
  let v278 : BitVec 32 := Scalar.muli arg9 c2_i32_104
  let v279 : BitVec 32 := v278
  let v308 : BitVec 32 := Scalar.addi v279 c0_i32_110
  let v309 : Index := Scalar.indexCast v308
  let c64 : Index := 64#32
  ![v309.toNat, 64]
def k0_off15 (k0_t2 : Fin k0_t2_loop.trips) (c0_i32_111 : BitVec 32) : Fin 2 → Nat :=
  let c0_i32_13 : BitVec 32 := 0#32
  let c1_i32_15 : BitVec 32 := 1#32
  let arg9 : BitVec 32 := Scf.iv c0_i32_13 c1_i32_15 k0_t2
  let c2_i32_104 : BitVec 32 := 2#32
  let v278 : BitVec 32 := Scalar.muli arg9 c2_i32_104
  let v279 : BitVec 32 := v278
  let v315 : BitVec 32 := Scalar.addi v279 c0_i32_111
  let v316 : Index := Scalar.indexCast v315
  let c80 : Index := 80#32
  ![v316.toNat, 80]
def k0_off16 (k0_t2 : Fin k0_t2_loop.trips) (c0_i32_112 : BitVec 32) : Fin 2 → Nat :=
  let c0_i32_13 : BitVec 32 := 0#32
  let c1_i32_15 : BitVec 32 := 1#32
  let arg9 : BitVec 32 := Scf.iv c0_i32_13 c1_i32_15 k0_t2
  let c2_i32_104 : BitVec 32 := 2#32
  let v278 : BitVec 32 := Scalar.muli arg9 c2_i32_104
  let v279 : BitVec 32 := v278
  let v322 : BitVec 32 := Scalar.addi v279 c0_i32_112
  let v323 : Index := Scalar.indexCast v322
  let c96 : Index := 96#32
  ![v323.toNat, 96]
def k0_off17 (k0_t2 : Fin k0_t2_loop.trips) (c0_i32_113 : BitVec 32) : Fin 2 → Nat :=
  let c0_i32_13 : BitVec 32 := 0#32
  let c1_i32_15 : BitVec 32 := 1#32
  let arg9 : BitVec 32 := Scf.iv c0_i32_13 c1_i32_15 k0_t2
  let c2_i32_104 : BitVec 32 := 2#32
  let v278 : BitVec 32 := Scalar.muli arg9 c2_i32_104
  let v279 : BitVec 32 := v278
  let v329 : BitVec 32 := Scalar.addi v279 c0_i32_113
  let v330 : Index := Scalar.indexCast v329
  let c112 : Index := 112#32
  ![v330.toNat, 112]
def k0_mult7 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1472_i32 : BitVec 32 := 1472#32
  let v2 : BitVec 32 := Scalar.muli v1 c1472_i32
  let v3 : BitVec 32 := v2
  let c1104_i32 : BitVec 32 := 1104#32
  let v26 : BitVec 32 := Scalar.addi v3 c1104_i32
  v26
@[reducible] def k0_t3_loop : Scf.Loop 32 :=
  let c0_i32_21 : BitVec 32 := 0#32
  let c184_i32_22 : BitVec 32 := 184#32
  let v32 : BitVec 32 := Scalar.addi c0_i32_21 c184_i32_22
  let c1_i32_23 : BitVec 32 := 1#32
  ⟨c0_i32_21, v32, c1_i32_23⟩
def k0_mult8 (k0_t3 : Fin k0_t3_loop.trips) : BitVec 32 :=
  let c0_i32_21 : BitVec 32 := 0#32
  let c1_i32_23 : BitVec 32 := 1#32
  let arg9 : BitVec 32 := Scf.iv c0_i32_21 c1_i32_23 k0_t3
  let c2_i32_104 : BitVec 32 := 2#32
  let v278 : BitVec 32 := Scalar.muli arg9 c2_i32_104
  v278
def k0_off18 (k0_t3 : Fin k0_t3_loop.trips) (c0_i32_105 : BitVec 32) : Fin 2 → Nat :=
  let c0_i32_21 : BitVec 32 := 0#32
  let c1_i32_23 : BitVec 32 := 1#32
  let arg9 : BitVec 32 := Scf.iv c0_i32_21 c1_i32_23 k0_t3
  let c2_i32_104 : BitVec 32 := 2#32
  let v278 : BitVec 32 := Scalar.muli arg9 c2_i32_104
  let v279 : BitVec 32 := v278
  let v280 : BitVec 32 := Scalar.addi v279 c0_i32_105
  let v281 : Index := Scalar.indexCast v280
  let c0_106 : Index := 0#32
  ![v281.toNat, 0]
def k0_off19 (k0_t3 : Fin k0_t3_loop.trips) (c0_i32_107 : BitVec 32) : Fin 2 → Nat :=
  let c0_i32_21 : BitVec 32 := 0#32
  let c1_i32_23 : BitVec 32 := 1#32
  let arg9 : BitVec 32 := Scf.iv c0_i32_21 c1_i32_23 k0_t3
  let c2_i32_104 : BitVec 32 := 2#32
  let v278 : BitVec 32 := Scalar.muli arg9 c2_i32_104
  let v279 : BitVec 32 := v278
  let v287 : BitVec 32 := Scalar.addi v279 c0_i32_107
  let v288 : Index := Scalar.indexCast v287
  let c16 : Index := 16#32
  ![v288.toNat, 16]
def k0_off20 (k0_t3 : Fin k0_t3_loop.trips) (c0_i32_108 : BitVec 32) : Fin 2 → Nat :=
  let c0_i32_21 : BitVec 32 := 0#32
  let c1_i32_23 : BitVec 32 := 1#32
  let arg9 : BitVec 32 := Scf.iv c0_i32_21 c1_i32_23 k0_t3
  let c2_i32_104 : BitVec 32 := 2#32
  let v278 : BitVec 32 := Scalar.muli arg9 c2_i32_104
  let v279 : BitVec 32 := v278
  let v294 : BitVec 32 := Scalar.addi v279 c0_i32_108
  let v295 : Index := Scalar.indexCast v294
  let c32 : Index := 32#32
  ![v295.toNat, 32]
def k0_off21 (k0_t3 : Fin k0_t3_loop.trips) (c0_i32_109 : BitVec 32) : Fin 2 → Nat :=
  let c0_i32_21 : BitVec 32 := 0#32
  let c1_i32_23 : BitVec 32 := 1#32
  let arg9 : BitVec 32 := Scf.iv c0_i32_21 c1_i32_23 k0_t3
  let c2_i32_104 : BitVec 32 := 2#32
  let v278 : BitVec 32 := Scalar.muli arg9 c2_i32_104
  let v279 : BitVec 32 := v278
  let v301 : BitVec 32 := Scalar.addi v279 c0_i32_109
  let v302 : Index := Scalar.indexCast v301
  let c48 : Index := 48#32
  ![v302.toNat, 48]
def k0_off22 (k0_t3 : Fin k0_t3_loop.trips) (c0_i32_110 : BitVec 32) : Fin 2 → Nat :=
  let c0_i32_21 : BitVec 32 := 0#32
  let c1_i32_23 : BitVec 32 := 1#32
  let arg9 : BitVec 32 := Scf.iv c0_i32_21 c1_i32_23 k0_t3
  let c2_i32_104 : BitVec 32 := 2#32
  let v278 : BitVec 32 := Scalar.muli arg9 c2_i32_104
  let v279 : BitVec 32 := v278
  let v308 : BitVec 32 := Scalar.addi v279 c0_i32_110
  let v309 : Index := Scalar.indexCast v308
  let c64 : Index := 64#32
  ![v309.toNat, 64]
def k0_off23 (k0_t3 : Fin k0_t3_loop.trips) (c0_i32_111 : BitVec 32) : Fin 2 → Nat :=
  let c0_i32_21 : BitVec 32 := 0#32
  let c1_i32_23 : BitVec 32 := 1#32
  let arg9 : BitVec 32 := Scf.iv c0_i32_21 c1_i32_23 k0_t3
  let c2_i32_104 : BitVec 32 := 2#32
  let v278 : BitVec 32 := Scalar.muli arg9 c2_i32_104
  let v279 : BitVec 32 := v278
  let v315 : BitVec 32 := Scalar.addi v279 c0_i32_111
  let v316 : Index := Scalar.indexCast v315
  let c80 : Index := 80#32
  ![v316.toNat, 80]
def k0_off24 (k0_t3 : Fin k0_t3_loop.trips) (c0_i32_112 : BitVec 32) : Fin 2 → Nat :=
  let c0_i32_21 : BitVec 32 := 0#32
  let c1_i32_23 : BitVec 32 := 1#32
  let arg9 : BitVec 32 := Scf.iv c0_i32_21 c1_i32_23 k0_t3
  let c2_i32_104 : BitVec 32 := 2#32
  let v278 : BitVec 32 := Scalar.muli arg9 c2_i32_104
  let v279 : BitVec 32 := v278
  let v322 : BitVec 32 := Scalar.addi v279 c0_i32_112
  let v323 : Index := Scalar.indexCast v322
  let c96 : Index := 96#32
  ![v323.toNat, 96]
def k0_off25 (k0_t3 : Fin k0_t3_loop.trips) (c0_i32_113 : BitVec 32) : Fin 2 → Nat :=
  let c0_i32_21 : BitVec 32 := 0#32
  let c1_i32_23 : BitVec 32 := 1#32
  let arg9 : BitVec 32 := Scf.iv c0_i32_21 c1_i32_23 k0_t3
  let c2_i32_104 : BitVec 32 := 2#32
  let v278 : BitVec 32 := Scalar.muli arg9 c2_i32_104
  let v279 : BitVec 32 := v278
  let v329 : BitVec 32 := Scalar.addi v279 c0_i32_113
  let v330 : Index := Scalar.indexCast v329
  let c112 : Index := 112#32
  ![v330.toNat, 112]
@[reducible] def k0_t4_loop : Scf.Loop 32 :=
  let c0_i32_27 : BitVec 32 := 0#32
  let c184_i32_28 : BitVec 32 := 184#32
  let v36 : BitVec 32 := Scalar.addi c0_i32_27 c184_i32_28
  let c1_i32_29 : BitVec 32 := 1#32
  ⟨c0_i32_27, v36, c1_i32_29⟩
def k0_mult9 (k0_t4 : Fin k0_t4_loop.trips) : BitVec 32 :=
  let c0_i32_27 : BitVec 32 := 0#32
  let c1_i32_29 : BitVec 32 := 1#32
  let arg9 : BitVec 32 := Scf.iv c0_i32_27 c1_i32_29 k0_t4
  let c2_i32_104 : BitVec 32 := 2#32
  let v278 : BitVec 32 := Scalar.muli arg9 c2_i32_104
  v278
def k0_off26 (k0_t4 : Fin k0_t4_loop.trips) (c0_i32_105 : BitVec 32) : Fin 2 → Nat :=
  let c0_i32_27 : BitVec 32 := 0#32
  let c1_i32_29 : BitVec 32 := 1#32
  let arg9 : BitVec 32 := Scf.iv c0_i32_27 c1_i32_29 k0_t4
  let c2_i32_104 : BitVec 32 := 2#32
  let v278 : BitVec 32 := Scalar.muli arg9 c2_i32_104
  let v279 : BitVec 32 := v278
  let v280 : BitVec 32 := Scalar.addi v279 c0_i32_105
  let v281 : Index := Scalar.indexCast v280
  let c0_106 : Index := 0#32
  ![v281.toNat, 0]
def k0_off27 (k0_t4 : Fin k0_t4_loop.trips) (c0_i32_107 : BitVec 32) : Fin 2 → Nat :=
  let c0_i32_27 : BitVec 32 := 0#32
  let c1_i32_29 : BitVec 32 := 1#32
  let arg9 : BitVec 32 := Scf.iv c0_i32_27 c1_i32_29 k0_t4
  let c2_i32_104 : BitVec 32 := 2#32
  let v278 : BitVec 32 := Scalar.muli arg9 c2_i32_104
  let v279 : BitVec 32 := v278
  let v287 : BitVec 32 := Scalar.addi v279 c0_i32_107
  let v288 : Index := Scalar.indexCast v287
  let c16 : Index := 16#32
  ![v288.toNat, 16]
def k0_off28 (k0_t4 : Fin k0_t4_loop.trips) (c0_i32_108 : BitVec 32) : Fin 2 → Nat :=
  let c0_i32_27 : BitVec 32 := 0#32
  let c1_i32_29 : BitVec 32 := 1#32
  let arg9 : BitVec 32 := Scf.iv c0_i32_27 c1_i32_29 k0_t4
  let c2_i32_104 : BitVec 32 := 2#32
  let v278 : BitVec 32 := Scalar.muli arg9 c2_i32_104
  let v279 : BitVec 32 := v278
  let v294 : BitVec 32 := Scalar.addi v279 c0_i32_108
  let v295 : Index := Scalar.indexCast v294
  let c32 : Index := 32#32
  ![v295.toNat, 32]
def k0_off29 (k0_t4 : Fin k0_t4_loop.trips) (c0_i32_109 : BitVec 32) : Fin 2 → Nat :=
  let c0_i32_27 : BitVec 32 := 0#32
  let c1_i32_29 : BitVec 32 := 1#32
  let arg9 : BitVec 32 := Scf.iv c0_i32_27 c1_i32_29 k0_t4
  let c2_i32_104 : BitVec 32 := 2#32
  let v278 : BitVec 32 := Scalar.muli arg9 c2_i32_104
  let v279 : BitVec 32 := v278
  let v301 : BitVec 32 := Scalar.addi v279 c0_i32_109
  let v302 : Index := Scalar.indexCast v301
  let c48 : Index := 48#32
  ![v302.toNat, 48]
def k0_off30 (k0_t4 : Fin k0_t4_loop.trips) (c0_i32_110 : BitVec 32) : Fin 2 → Nat :=
  let c0_i32_27 : BitVec 32 := 0#32
  let c1_i32_29 : BitVec 32 := 1#32
  let arg9 : BitVec 32 := Scf.iv c0_i32_27 c1_i32_29 k0_t4
  let c2_i32_104 : BitVec 32 := 2#32
  let v278 : BitVec 32 := Scalar.muli arg9 c2_i32_104
  let v279 : BitVec 32 := v278
  let v308 : BitVec 32 := Scalar.addi v279 c0_i32_110
  let v309 : Index := Scalar.indexCast v308
  let c64 : Index := 64#32
  ![v309.toNat, 64]
def k0_off31 (k0_t4 : Fin k0_t4_loop.trips) (c0_i32_111 : BitVec 32) : Fin 2 → Nat :=
  let c0_i32_27 : BitVec 32 := 0#32
  let c1_i32_29 : BitVec 32 := 1#32
  let arg9 : BitVec 32 := Scf.iv c0_i32_27 c1_i32_29 k0_t4
  let c2_i32_104 : BitVec 32 := 2#32
  let v278 : BitVec 32 := Scalar.muli arg9 c2_i32_104
  let v279 : BitVec 32 := v278
  let v315 : BitVec 32 := Scalar.addi v279 c0_i32_111
  let v316 : Index := Scalar.indexCast v315
  let c80 : Index := 80#32
  ![v316.toNat, 80]
def k0_off32 (k0_t4 : Fin k0_t4_loop.trips) (c0_i32_112 : BitVec 32) : Fin 2 → Nat :=
  let c0_i32_27 : BitVec 32 := 0#32
  let c1_i32_29 : BitVec 32 := 1#32
  let arg9 : BitVec 32 := Scf.iv c0_i32_27 c1_i32_29 k0_t4
  let c2_i32_104 : BitVec 32 := 2#32
  let v278 : BitVec 32 := Scalar.muli arg9 c2_i32_104
  let v279 : BitVec 32 := v278
  let v322 : BitVec 32 := Scalar.addi v279 c0_i32_112
  let v323 : Index := Scalar.indexCast v322
  let c96 : Index := 96#32
  ![v323.toNat, 96]
def k0_off33 (k0_t4 : Fin k0_t4_loop.trips) (c0_i32_113 : BitVec 32) : Fin 2 → Nat :=
  let c0_i32_27 : BitVec 32 := 0#32
  let c1_i32_29 : BitVec 32 := 1#32
  let arg9 : BitVec 32 := Scf.iv c0_i32_27 c1_i32_29 k0_t4
  let c2_i32_104 : BitVec 32 := 2#32
  let v278 : BitVec 32 := Scalar.muli arg9 c2_i32_104
  let v279 : BitVec 32 := v278
  let v329 : BitVec 32 := Scalar.addi v279 c0_i32_113
  let v330 : Index := Scalar.indexCast v329
  let c112 : Index := 112#32
  ![v330.toNat, 112]
def k0_off34 (i : grid0.Coords) : Fin 4 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_104_r0 : BitVec 32 := 0#32
  let c0_i32_105_r0 : BitVec 32 := 0#32
  let c0_i32_106_r0 : BitVec 32 := 0#32
  ![v1.toNat, 0, 0, 0]
abbrev grid1 : Pipeline.Grid := ⟨1, ![14], ![false]⟩

def k1_cond1 (i : grid1.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_2 : BitVec 32 := 0#32
  let v17 : BitVec 1 := Scalar.cmpi .ne v16 c0_i32_2
  v17

def k1_cond2 (i : grid1.Coords) : BitVec 1 :=
  let arg0 : BitVec 32 := BitVec.ofNat 32 (i 0).val
  let c0_i32_3 : BitVec 32 := 0#32
  let v18 : BitVec 1 := Scalar.cmpi .sgt arg0 c0_i32_3
  let v19 : BitVec 32 := Scalar.extui v18
  let c0_i32_4 : BitVec 32 := 0#32
  let v20 : BitVec 1 := Scalar.cmpi .ne v19 c0_i32_4
  v20

def cc1_transform_0 (i : grid1.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x100000 : Shape := ⟨2, ![128, 100000]⟩
abbrev S_ : Shape := ⟨0, ![]⟩
abbrev S128 : Shape := ⟨1, ![128]⟩

abbrev nBuf : Space → Nat
  | .hbm => 6
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128x100000, .i32⟩
  | .hbm, ⟨2, _⟩ => ⟨S_, .f32⟩
  | .hbm, ⟨3, _⟩ => ⟨S_, .i32⟩
  | .hbm, ⟨4, _⟩ => ⟨S128, .f32⟩
  | .hbm, ⟨5, _⟩ => ⟨S128, .i32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩

abbrev nD : Nat := 1
abbrev τ : Topo := Topo.v7x

variable {F : FTy → Type} [FloatOps F]
-- ==== Proof.Setup.lean ====
/-
  The program as the launch theorem sees it: its body table, the resource algebra of its proof, the places of the
  arrays the two kernels share, and the coordinates of a tile.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ValueIdxCore
public import Idealize.ShloMosaic.Lib.ShareLeaves
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The body table's labels: the kernels' own and the one pipeline's. -/
abbrev ΛP : Labels := Pipeline.Sig Λ₀ (Fin 1) fun p => (pcfgs (F := F) p).Adm
/-- The one SparseCore call. -/
abbrev K : SparseCore.Cfg τ sig (ΛP (F := F)) 1 := sc (F := F)
/-- The bodies the TensorCore's program calls. -/
abbrev D [FloatOps F] : Defs nD τ sig (Elt F) (ΛP (F := F)) := Pipeline.defs pcfgs defs₀
/-- No loop of the program needs a variant. -/
abbrev 𝒱₀ : Variants := Variants.none
/-- The same under the pipeline's labels. -/
abbrev 𝒱 : Variants := 𝒱₀.lift
/-- The bound a thread starts at. -/
abbrev v₀ : 𝒱.V := Sum.inl none

/-- The protocol's ghost state: its rounds' (the launch's cells and the pipeline's), and the counters of the transfers. -/
abbrev UH : Type := URounds (GSem nD τ sig) ℕ
/-- The pipeline's rounds. -/
abbrev UP : Type := URounds (GSem nD τ sig) Unit
/-- The whole ghost state. -/
abbrev UU : Type := UH × (UP × Counters)

/-- The SparseCore a grid coordinate names. -/
abbrev cV (L : grid0.Coords) : Fin τ.nSC := (L 0).castLE hcore0
/-- The tile a grid coordinate names. -/
abbrev jV (L : grid0.Coords) : Fin τ.nSub := (L 1).castLE hsub0

end Cert.Proof

end

end
-- ==== Proof.Scan.lean ====
/-
  One tile's scan: the running maximum and the place of its first occurrence down a column, and the loop trip that
  advances sixteen such chains for sixteen columns each by one step.
-/
module

public import proofs.«01_k».proof.Proof.Setup
public import Idealize.ShloMosaic.Lib.Pipeline.Value

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.ShloMosaic.ValueIdx (ix1 ix2 ix3 ix4 eq_ix1 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The element of the transposed table in row `r` and column `c`. -/
def cell (X : S100000x128.Idx → F .f32) (r c : ℕ) : F .f32 := X (ix2 (Fin.ofNat 100000 r) (Fin.ofNat 128 c))

/-- The running maximum of a sequence after `n` terms, from minus infinity, and the number of the term that set it. -/
def chain (x : ℕ → F .f32) : ℕ → F .f32 × BitVec 32
  | 0 => (FloatOps.ofBits .f32 0xFF800000, 0#32)
  | n + 1 =>
    (Scalar.select (FloatOps.cmpf .ogt (x n) (chain x n).1) (x n) (chain x n).1,
      Scalar.select (FloatOps.cmpf .ogt (x n) (chain x n).1) (BitVec.ofNat 32 n) (chain x n).2)

/-- Column `16 g + l` of the table from row `b + p` on, every second row. -/
abbrev xs (X : S100000x128.Idx → F .f32) (b p g : ℕ) (l : S16.Idx) : ℕ → F .f32 :=
  fun n => cell X (b + 2 * n + p) (16 * g + (l 0).val)

/-- The running maxima of sixteen columns after `n` trips. -/
def mV (X : S100000x128.Idx → F .f32) (b n p g : ℕ) : FVec F S16 .f32 := fun l => (chain (xs X b p g l) n).1
/-- The trips that set them. -/
def gV (X : S100000x128.Idx → F .f32) (b n p g : ℕ) : IVec S16 32 := fun l => (chain (xs X b p g l) n).2
/-- The trip's own number on every lane. -/
def iV (n : ℕ) : IVec S16 32 := fun _ => BitVec.ofNat 32 n

/-- The type of what the loop carries: thirty-two vectors and the trip counter's. -/
abbrev Carry (F : FTy → Type) : Type :=
    FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × IVec S16 32 × IVec S16 32 × IVec S16 32 × IVec S16 32 × IVec S16 32 × IVec S16 32 × IVec S16 32 × IVec S16 32 × IVec S16 32 × IVec S16 32 × IVec S16 32 × IVec S16 32 × IVec S16 32 × IVec S16 32 × IVec S16 32 × IVec S16 32 × IVec S16 32

/-- What the loop carries after `n` trips. -/
abbrev carry (X : S100000x128.Idx → F .f32) (b n : ℕ) : Carry F :=
  (mV X b n 0 0, mV X b n 0 1, mV X b n 0 2, mV X b n 0 3, mV X b n 0 4, mV X b n 0 5, mV X b n 0 6, mV X b n 0 7,
    mV X b n 1 0, mV X b n 1 1, mV X b n 1 2, mV X b n 1 3, mV X b n 1 4, mV X b n 1 5, mV X b n 1 6, mV X b n 1 7,
    gV X b n 0 0, gV X b n 0 1, gV X b n 0 2, gV X b n 0 3, gV X b n 0 4, gV X b n 0 5, gV X b n 0 6, gV X b n 0 7,
    gV X b n 1 0, gV X b n 1 1, gV X b n 1 2, gV X b n 1 3, gV X b n 1 4, gV X b n 1 5, gV X b n 1 6, gV X b n 1 7,
    iV n)

/-- A row of sixteen read as a vector of sixteen. -/
theorem row16 (v : Vec F S1x16 .f32) (l : S16.Idx) :
    (shapeCast S16 v shapeCasts_S1x16_S16 : FVec F S16 .f32) l = v (ix2 0 (l 0)) := by
  rw [ValueIdx.eq_ix1 l]
  exact (shapeCast_dropUnit_apply ![16] v shapeCasts_S1x16_S16 (ix1 (l 0))).trans
    (congrArg v (funext fun a => match a with | ⟨0, _⟩ => rfl | ⟨1, _⟩ => rfl))

section Step

variable {X : S100000x128.Idx → F .f32} {b n p g : ℕ} {v : Vec F S1x16 .f32}
  (hv : ∀ l : Fin 16, v (ix2 0 l) = cell X (b + 2 * n + p) (16 * g + l.val))

include hv in
/-- One step of the running maxima. -/
theorem mV_step :
    (select (cmpf .ogt (shapeCast S16 v shapeCasts_S1x16_S16) (mV X b n p g)) (shapeCast S16 v shapeCasts_S1x16_S16) (mV X b n p g) : FVec F S16 .f32)
      = mV X b (n + 1) p g := by
  funext l
  have h : (shapeCast S16 v shapeCasts_S1x16_S16 : FVec F S16 .f32) l = xs X b p g l n := (row16 v l).trans (hv (l 0))
  show Scalar.select (FloatOps.cmpf .ogt ((shapeCast S16 v shapeCasts_S1x16_S16 : FVec F S16 .f32) l) _) ((shapeCast S16 v shapeCasts_S1x16_S16 : FVec F S16 .f32) l) _ = _
  rw [h]; rfl

include hv in
/-- One step of the places. -/
theorem gV_step :
    (select (cmpf .ogt (shapeCast S16 v shapeCasts_S1x16_S16) (mV X b n p g)) (iV n) (gV X b n p g) : IVec S16 32)
      = gV X b (n + 1) p g := by
  funext l
  have h : (shapeCast S16 v shapeCasts_S1x16_S16 : FVec F S16 .f32) l = xs X b p g l n := (row16 v l).trans (hv (l 0))
  show Scalar.select (FloatOps.cmpf .ogt ((shapeCast S16 v shapeCasts_S1x16_S16 : FVec F S16 .f32) l) _) _ _ = _
  rw [h]; rfl

end Step

/-- The trip counter goes up by one. -/
theorem iV_step (n : ℕ) : (addi (iV n) (broadcast S16 1#32) : IVec S16 32) = iV (n + 1) := by
  funext l; exact (BitVec.ofNat_add n 1).symm

/-! ## A row of the buffer -/

/-- Sixteen elements of the buffer from row `2 k + p` and column `16 g` on, when the buffer holds the table's rows
    from `b + 368 r` on. -/
theorem row_at {X : S100000x128.Idx → F .f32} {b r : ℕ} {sp : Space} (v : View sig .scVector sp S368x128 .f32) (f : v.ty.Contents (Elt F))
    (hf : ∀ (a : Fin 368) (c : Fin 128), v.read (Elt F) f (ix2 a c) = cell X (b + 368 * r + a.val) c.val)
    {off : Fin 2 → ℕ} (inb : ∀ a, off a + S1x16.size a ≤ S368x128.size a) (k p g : ℕ) (h : off = ![2 * k + p, 16 * g]) (l : Fin 16) :
    v.readAt (Elt F) (Rect.unit (s := S368x128) off S1x16.size inb).toLoadRect f (ix2 0 l)
      = cell X (b + 2 * (184 * r + k) + p) (16 * g + l.val) := by
  subst h
  have h0 : 2 * k + p < 368 := by have := inb 0; simpa using this
  have h1 : 16 * g + l.val < 128 := by have := inb 1; have : 16 * g + 16 ≤ 128 := this; omega
  have e : (Rect.unit (s := S368x128) ![2 * k + p, 16 * g] S1x16.size inb).toLoadRect.idx (ix2 0 l) = ix2 ⟨2 * k + p, h0⟩ ⟨16 * g + l.val, h1⟩ := by
    funext a
    match a with
    | ⟨0, _⟩ => exact Fin.ext (show 2 * k + p + _ * 0 = 2 * k + p by omega)
    | ⟨1, _⟩ => exact Fin.ext (show 16 * g + 1 * l.val = 16 * g + l.val by omega)
  rw [View.readAt_apply, e, hf]
  congr 1; simp only; omega

end Cert.Proof

end

end
-- ==== Proof.Trip.lean ====
/-
  A trip of the scan loop, run: from the sixteen chains after `n` steps to the sixteen chains after `n + 1`, the buffer
  read and given back. The four loops are one loop over one buffer or the other.
-/
module

public import proofs.«01_k».proof.Proof.Scan

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.ShloMosaic.ValueIdx (ix1 ix2 ix3 ix4 eq_ix1 eq_ix2 eq_ix3)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

section Bodies

variable (i : grid0.Coords) (arg2 : Memref sig .scVector .hbm S100000x128 .f32) (harg2 : arg2.IsWhole) (arg3 : Memref sig .scVector .hbm S32x2x8x16 .f32) (harg3 : arg3.IsWhole)
  (arg4 : Memref sig .scVector .vmem S368x128 .f32) (harg4 : arg4.IsWhole) (arg5 : Memref sig .scVector .vmem S368x128 .f32) (harg5 : arg5.IsWhole)
  (arg6 : Memref sig .scVector .vmem S2x8x16 .f32) (harg6 : arg6.IsWhole) (arg7 arg8 v278_r0 : DmaSems sig S_)

set_option maxRecDepth 65536 in
/-- The second loop's trip is the first's over the other buffer. -/
theorem body2_eq : k0_t2_body (F := F) i arg2 harg2 arg3 harg3 arg4 harg4 arg5 harg5 arg6 harg6 arg7 arg8 v278_r0
    = k0_t1_body (F := F) i arg2 harg2 arg3 harg3 arg5 harg5 arg4 harg4 arg6 harg6 arg7 arg8 v278_r0 := by
  unfold k0_t2_body k0_t1_body
  rw [k0_part1_eq_skeleton, k0_part2_eq_skeleton, k0_part3_eq_skeleton, k0_part4_eq_skeleton]
  rfl

variable (v : BitVec 32) (a0 a1 a2 a3 a4 a5 a6 a7 a8 a9 a10 a11 a12 a13 a14 a15 : FVec F S16 .f32)
  (a16 a17 a18 a19 a20 a21 a22 a23 a24 a25 a26 a27 a28 a29 a30 a31 a32 : IVec S16 32) (w : BitVec 32)

set_option maxRecDepth 65536 in
/-- The third loop's trip is the first's. -/
theorem body3_eq : k0_t3_body (F := F) i arg2 harg2 arg3 harg3 arg4 harg4 arg5 harg5 arg6 harg6 arg7 arg8 v278_r0 v a0 a1 a2 a3 a4 a5 a6 a7 a8 a9 a10 a11 a12 a13 a14 a15
      a16 a17 a18 a19 a20 a21 a22 a23 a24 a25 a26 a27 a28 a29 a30 a31 a32 w
    = k0_t1_body (F := F) i arg2 harg2 arg3 harg3 arg4 harg4 arg5 harg5 arg6 harg6 arg7 arg8 v278_r0 := by
  unfold k0_t3_body k0_t1_body
  rw [k0_part1_eq_skeleton, k0_part2_eq_skeleton, k0_part5_eq_skeleton, k0_part6_eq_skeleton]
  rfl

set_option maxRecDepth 65536 in
/-- The fourth loop's trip is the first's over the other buffer. -/
theorem body4_eq : k0_t4_body (F := F) i arg2 harg2 arg3 harg3 arg4 harg4 arg5 harg5 arg6 harg6 arg7 arg8 v278_r0 v a0 a1 a2 a3 a4 a5 a6 a7 a8 a9 a10 a11 a12 a13 a14 a15
      a16 a17 a18 a19 a20 a21 a22 a23 a24 a25 a26 a27 a28 a29 a30 a31 a32 w
    = k0_t1_body (F := F) i arg2 harg2 arg3 harg3 arg5 harg5 arg4 harg4 arg6 harg6 arg7 arg8 v278_r0 := by
  unfold k0_t4_body k0_t1_body
  rw [k0_part1_eq_skeleton, k0_part2_eq_skeleton, k0_part7_eq_skeleton, k0_part8_eq_skeleton]
  rfl

end Bodies

set_option maxHeartbeats 4000000 in
/-- One trip of the scan over a buffer holding the table's rows from `b + 368 r` on. -/
theorem trip (d : Dev nD) (L : grid0.Coords) (arg2 : Memref sig .scVector .hbm S100000x128 .f32) (harg2 : arg2.IsWhole) (arg3 : Memref sig .scVector .hbm S32x2x8x16 .f32) (harg3 : arg3.IsWhole)
    (arg4 : Memref sig .scVector .vmem S368x128 .f32) (harg4 : arg4.IsWhole) (arg5 : Memref sig .scVector .vmem S368x128 .f32) (harg5 : arg5.IsWhole)
    (arg6 : Memref sig .scVector .vmem S2x8x16 .f32) (harg6 : arg6.IsWhole) (arg7 arg8 v278_r0 : DmaSems sig S_)
    (X : S100000x128.Idx → F .f32) (b r : ℕ) (f : Buf (Elt F) (arg4.view.loc (V d (cV L) (jV L))))
    (hf : ∀ (a : Fin 368) (c : Fin 128), arg4.view.read (Elt F) f (ix2 a c) = cell X (b + 368 * r + a.val) c.val)
    (k : Fin k0_t1_loop.trips) :
    (arg4.view.loc (V d (cV L) (jV L)) ↦{fullShare} f : sProp 𝕄)
      ⊢ wp frame (wpE (defs₀ (F := F)) 𝒱₀ (V d (cV L) (jV L)) none) Set.univ
          (k0_t1_body (F := F) L arg2 harg2 arg3 harg3 arg4 harg4 arg5 harg5 arg6 harg6 arg7 arg8 v278_r0 k (carry X b (184 * r + k.val)))
          fun acc => iprop(⌜acc = carry X b (184 * r + k.val + 1)⌝ ∗ (arg4.view.loc (V d (cV L) (jV L)) ↦{fullShare} f)) := by
  unfold k0_t1_body carry
  simp only [k0_part1_eq_skeleton, k0_part2_eq_skeleton]
  unfold k0_part1_skel k0_part2_skel
  iintro Hb
  sl_exec
  sl_step
  isplitr; swap; · iexact Hb
  ipureintro
  have hm : ∀ (p g : ℕ) {off : Fin 2 → ℕ} (inb : ∀ a, off a + S1x16.size a ≤ S368x128.size a) (_ : off = ![2 * k.val + p, 16 * g]),
      _ = mV X b (184 * r + k.val + 1) p g :=
    fun p g _ inb h => mV_step (row_at arg4.view f hf inb k.val p g h)
  have hg : ∀ (p g : ℕ) {off : Fin 2 → ℕ} (inb : ∀ a, off a + S1x16.size a ≤ S368x128.size a) (_ : off = ![2 * k.val + p, 16 * g]),
      _ = gV X b (184 * r + k.val + 1) p g :=
    fun p g _ inb h => gV_step (row_at arg4.view f hf inb k.val p g h)
  simp only [Prod.mk.injEq]
  exact ⟨hm 0 0 (k0_off2_inb k 0) (k0_off2_eq k 0), hm 0 1 (k0_off3_inb k 0) (k0_off3_eq k 0), hm 0 2 (k0_off4_inb k 0) (k0_off4_eq k 0), hm 0 3
    (k0_off5_inb k 0) (k0_off5_eq k 0), hm 0 4 (k0_off6_inb k 0) (k0_off6_eq k 0), hm 0 5 (k0_off7_inb k 0) (k0_off7_eq k 0), hm 0 6
    (k0_off8_inb k 0) (k0_off8_eq k 0), hm 0 7 (k0_off9_inb k 0) (k0_off9_eq k 0), hm 1 0 (k0_off2_inb k 1) (k0_off2_eq k 1), hm 1 1
    (k0_off3_inb k 1) (k0_off3_eq k 1), hm 1 2 (k0_off4_inb k 1) (k0_off4_eq k 1), hm 1 3 (k0_off5_inb k 1) (k0_off5_eq k 1), hm 1 4
    (k0_off6_inb k 1) (k0_off6_eq k 1), hm 1 5 (k0_off7_inb k 1) (k0_off7_eq k 1), hm 1 6 (k0_off8_inb k 1) (k0_off8_eq k 1), hm 1 7
    (k0_off9_inb k 1) (k0_off9_eq k 1), hg 0 0 (k0_off2_inb k 0) (k0_off2_eq k 0), hg 0 1 (k0_off3_inb k 0) (k0_off3_eq k 0), hg 0 2
    (k0_off4_inb k 0) (k0_off4_eq k 0), hg 0 3 (k0_off5_inb k 0) (k0_off5_eq k 0), hg 0 4 (k0_off6_inb k 0) (k0_off6_eq k 0), hg 0 5
    (k0_off7_inb k 0) (k0_off7_eq k 0), hg 0 6 (k0_off8_inb k 0) (k0_off8_eq k 0), hg 0 7 (k0_off9_inb k 0) (k0_off9_eq k 0), hg 1 0
    (k0_off2_inb k 1) (k0_off2_eq k 1), hg 1 1 (k0_off3_inb k 1) (k0_off3_eq k 1), hg 1 2 (k0_off4_inb k 1) (k0_off4_eq k 1), hg 1 3
    (k0_off5_inb k 1) (k0_off5_eq k 1), hg 1 4 (k0_off6_inb k 1) (k0_off6_eq k 1), hg 1 5 (k0_off7_inb k 1) (k0_off7_eq k 1), hg 1 6
    (k0_off8_inb k 1) (k0_off8_eq k 1), hg 1 7 (k0_off9_inb k 1) (k0_off9_eq k 1), iV_step _⟩

/-- A whole scan of a buffer holding the table's rows from `b + 368 r` on, at the head of a program. -/
theorem scan (d : Dev nD) (L : grid0.Coords) (arg2 : Memref sig .scVector .hbm S100000x128 .f32) (harg2 : arg2.IsWhole) (arg3 : Memref sig .scVector .hbm S32x2x8x16 .f32) (harg3 : arg3.IsWhole)
    (arg4 : Memref sig .scVector .vmem S368x128 .f32) (harg4 : arg4.IsWhole) (arg5 : Memref sig .scVector .vmem S368x128 .f32) (harg5 : arg5.IsWhole)
    (arg6 : Memref sig .scVector .vmem S2x8x16 .f32) (harg6 : arg6.IsWhole) (arg7 arg8 v278_r0 : DmaSems sig S_)
    (X : S100000x128.Idx → F .f32) (b r : ℕ) (f : Buf (Elt F) (arg4.view.loc (V d (cV L) (jV L))))
    (hf : ∀ (a : Fin 368) (c : Fin 128), arg4.view.read (Elt F) f (ix2 a c) = cell X (b + 368 * r + a.val) c.val)
    {β : Type} {kk : Carry F → Prog (TpuEff nD τ sig (Elt F) Λ₀ (.scVector ((L 0).castLE hcore0) ((L 1).castLE hsub0))) β} {Q : β → sProp 𝕄} :
    (arg4.view.loc (V d (cV L) (jV L)) ↦{fullShare} f : sProp 𝕄)
      ⊢ iprop(((arg4.view.loc (V d (cV L) (jV L)) ↦{fullShare} f) -∗
          wp frame (wpE (defs₀ (F := F)) 𝒱₀ (V d (cV L) (jV L)) none) Set.univ (kk (carry X b (184 * (r + 1)))) Q) -∗
          wp frame (wpE (defs₀ (F := F)) 𝒱₀ (V d (cV L) (jV L)) none) Set.univ
            (Scf.Loop.for k0_t1_loop k0_t1_ok (carry X b (184 * r))
              (k0_t1_body (F := F) L arg2 harg2 arg3 harg3 arg4 harg4 arg5 harg5 arg6 harg6 arg7 arg8 v278_r0) >>= kk) Q) := by
  iintro Hb HK
  iapply (Scf.wp_for_bind frame (wpE (defs₀ (F := F)) 𝒱₀ (V d (cV L) (jV L)) none) Set.univ _ _ _ k0_t1_ok (carry X b (184 * r)) _
      (fun k acc => iprop(⌜acc = carry X b (184 * r + k)⌝ ∗ (arg4.view.loc (V d (cV L) (jV L)) ↦{fullShare} f))) ?_) $$ [Hb]
  · intro k acc
    iintro ⟨%e, Hb⟩
    subst e
    iapply (trip d L arg2 harg2 arg3 harg3 arg4 harg4 arg5 harg5 arg6 harg6 arg7 arg8 v278_r0 X b r f hf k)
    iexact Hb
  · isplitr; · ipureintro; rfl
    iexact Hb
  · iintro %acc ⟨%e, Hb⟩
    have e' : acc = carry X b (184 * (r + 1)) := e
    subst e'
    iapply HK
    iexact Hb

end Cert.Proof

end

end
-- ==== Proof.Pay.lean ====
/-
  What a tile computes and what the SparseCore call's handshakes carry: every tile gets a share of the transposed table
  and its own row of the partial results, and brings the row back holding the maxima and places of its own rows.
-/
module

public import proofs.«01_k».proof.Proof.Trip

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx (ix1 ix2 ix3 ix4 eq_ix1 eq_ix2 eq_ix3)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What a tile computes -/

section Values

variable [FloatOps F] (X : S100000x128.Idx → F .f32) (v : BitVec 32) (b g : ℕ)

/-- The rows the chains of parity `p` found their maxima in, for a tile whose rows start at `b`, `v` being `b` as a
    word. -/
def rowOf (p : ℕ) : IVec S16 32 :=
  addi (addi (broadcast S16 v) (muli (gV X b 736 p g) (broadcast S16 2#32))) (broadcast S16 (BitVec.ofNat 32 p))
/-- Where the odd rows' maximum beats the even rows': it is greater, or equal and found earlier. -/
def odd : IVec S16 1 :=
  ori (cmpf .ogt (mV X b 736 1 g) (mV X b 736 0 g))
    (andi (cmpf .oeq (mV X b 736 1 g) (mV X b 736 0 g)) (cmpi .slt (rowOf X v b g 1) (rowOf X v b g 0)))
/-- The sixteen maxima of column group `g` over a tile's rows. -/
def tileMax : FVec F S16 .f32 := select (odd X v b g) (mV X b 736 1 g) (mV X b 736 0 g)
/-- The rows they are in. -/
def tileRow : IVec S16 32 := select (odd X v b g) (rowOf X v b g 1) (rowOf X v b g 0)

/-- A tile's results: plane 0 the maxima, plane 1 the rows they are in as floats. -/
def stageOf (y : S2x8x16.Idx) : F .f32 :=
  if (y 0).val = 0 then tileMax X v b (y 1).val (ix1 (y 2)) else FloatOps.sitofp .f32 (tileRow X v b (y 1).val (ix1 (y 2)))

/-- All tiles' results: row `w` is that of the tile whose rows start at `1472 w`. -/
def outOf (i : S32x2x8x16.Idx) : F .f32 := stageOf X (BitVec.ofNat 32 (1472 * (i 0).val)) (1472 * (i 0).val) (ix3 (i 1) (i 2) (i 3))

end Values

/-! ## The arrays the call reads and writes -/

/-- The argument. -/
abbrev aLoc (d : Dev nD) : Loc nD τ sig := (SparseCore.T d).loc main_arg0
/-- Its transpose, the table the tiles read. -/
abbrev xLoc (d : Dev nD) : Loc nD τ sig := (SparseCore.T d).loc main_v0
/-- The tiles' results. -/
abbrev oLoc (d : Dev nD) : Loc nD τ sig := (SparseCore.T d).loc main_v1

/-- The transpose of an array. -/
def transp (A : S128x100000.Idx → F .f32) : S100000x128.Idx → F .f32 := fun i => A (ix2 (i 1) (i 0))

/-- Row `w` of the results. -/
def oRow (w : ℕ) : Finset S32x2x8x16.Idx := Finset.univ.filter fun i => (i 0).val = w
/-- The sixteen rows of SparseCore `c`. -/
def oCore (c : ℕ) : Finset S32x2x8x16.Idx := Finset.univ.filter fun i => (i 0).val / 16 = c

/-- SparseCore `c`'s share of the table. -/
abbrev qC (c : Fin 2) : PosShare TreeShare := leaf 1 fullShare c
/-- Its tile `i`'s share. -/
abbrev qT (c : Fin 2) (i : Fin 16) : PosShare TreeShare := leaf 4 (qC c) i

variable (m : (ℓ : Loc nD τ sig) → Buf (Elt F) ℓ)

/-- The table as launched. -/
abbrev tbl (d : Dev nD) : Buf (Elt F) (xLoc d) := transp (m (aLoc d))

variable [FloatOps F]

/-- The results the call leaves. -/
abbrev res (d : Dev nD) : Buf (Elt F) (oLoc d) := outOf (tbl m d)

omit [FloatOps F] in
theorem nCore_zero : (K (F := F)).nCore 0 = 2 := rfl
omit [FloatOps F] in
theorem nSub_zero : (K (F := F)).nSub 0 = 16 := rfl

/-- What goes to SparseCore `c`: its share of the table, its rows of the results. -/
abbrev stP (d : Dev nD) (c : Fin 2) (f : Buf (Elt F) (oLoc d)) : sProp 𝕄 :=
  iprop((xLoc d ↦{qC c} tbl m d) ∗ oLoc d ↦[oCore c.val]{fullShare} f)
/-- What goes to tile `i` of SparseCore `c`: its share of the table, its row of the results. -/
abbrev goP (d : Dev nD) (c : Fin 2) (i : Fin 16) (f : Buf (Elt F) (oLoc d)) : sProp 𝕄 :=
  iprop((xLoc d ↦{qT c i} tbl m d) ∗ oLoc d ↦[oRow (16 * c.val + i.val)]{fullShare} f)

/-- The call's payloads. -/
def P : (K (F := F)).Pay (nD := nD) (Val := Elt F) (Name := ℕ) (U := UU) where
  st := fun q d c => match q with | 0 => stP m d (Fin.cast nCore_zero c) (m (oLoc d))
  dn := fun q d c => match q with | 0 => stP m d (Fin.cast nCore_zero c) (res m d)
  go := fun q d c i => match q with | 0 => goP m d (Fin.cast nCore_zero c) (Fin.cast nSub_zero i) (m (oLoc d))
  td := fun q d c i => match q with | 0 => goP m d (Fin.cast nCore_zero c) (Fin.cast nSub_zero i) (res m d)
  x := fun _ _ => iprop(emp)

instance P_storable : (P (F := F) m).IsStorable where
  st q d c := match q with
    | 0 => (inferInstance : BI.Storable (upEmb : UEmb _ 𝕄) (stP m d (Fin.cast nCore_zero c) (m (oLoc d))))
  dn q d c := match q with
    | 0 => (inferInstance : BI.Storable (upEmb : UEmb _ 𝕄) (stP m d (Fin.cast nCore_zero c) (res m d)))
  go q d c i := match q with
    | 0 => (inferInstance : BI.Storable (upEmb : UEmb _ 𝕄) (goP m d (Fin.cast nCore_zero c) (Fin.cast nSub_zero i) (m (oLoc d))))
  td q d c i := match q with
    | 0 => (inferInstance : BI.Storable (upEmb : UEmb _ 𝕄) (goP m d (Fin.cast nCore_zero c) (Fin.cast nSub_zero i) (res m d)))

/-! ## Splitting and joining -/

omit [FloatOps F] in
theorem oRow_disjoint (c : ℕ) : ∀ i ∈ (Finset.univ : Finset (Fin 16)), ∀ j ∈ (Finset.univ : Finset (Fin 16)), i ≠ j →
    Disjoint (oRow (16 * c + i.val)) (oRow (16 * c + j.val)) := fun i _ j _ h => by
  refine Finset.disjoint_left.mpr fun x hx hx' => h (Fin.ext ?_)
  have h1 := (Finset.mem_filter.mp hx).2
  have h2 := (Finset.mem_filter.mp hx').2
  omega

omit [FloatOps F] in
theorem oRow_cover (c : ℕ) : (Finset.univ : Finset (Fin 16)).biUnion (fun i => oRow (16 * c + i.val)) = oCore c := by
  ext x
  simp only [Finset.mem_biUnion, Finset.mem_univ, true_and, oRow, oCore, Finset.mem_filter]
  constructor
  · rintro ⟨i, h⟩; have := i.isLt; omega
  · intro h; exact ⟨⟨(x 0).val % 16, Nat.mod_lt _ (by decide)⟩, by simp only; omega⟩

omit [FloatOps F] in
theorem oCore_disjoint : ∀ i ∈ (Finset.univ : Finset (Fin 2)), ∀ j ∈ (Finset.univ : Finset (Fin 2)), i ≠ j →
    Disjoint (oCore i.val) (oCore j.val) := fun i _ j _ h => by
  refine Finset.disjoint_left.mpr fun x hx hx' => h (Fin.ext ?_)
  have h1 := (Finset.mem_filter.mp hx).2
  have h2 := (Finset.mem_filter.mp hx').2
  omega

omit [FloatOps F] in
theorem oCore_cover : (Finset.univ : Finset (Fin 2)).biUnion (fun i => oCore i.val) = Finset.univ := by
  ext x
  simp only [Finset.mem_biUnion, Finset.mem_univ, true_and, oCore, Finset.mem_filter, iff_true]
  have h : (x 0).val < 32 := (x 0).isLt
  exact ⟨⟨(x 0).val / 16, by omega⟩, rfl⟩

omit [FloatOps F] in
/-- SparseCore `c`'s rows are its tiles' rows. -/
theorem core_rows (d : Dev nD) (c : Fin 2) (f : Buf (Elt F) (oLoc d)) :
    (oLoc d ↦[oCore c.val]{fullShare} f : sProp 𝕄) = bigSep Finset.univ fun i : Fin 16 => oLoc d ↦[oRow (16 * c.val + i.val)]{fullShare} f := by
  rw [← pointsTo_biUnion Finset.univ (ℓ := oLoc d) (fun i : Fin 16 => oRow (16 * c.val + i.val)) (oRow_disjoint c.val), oRow_cover]

omit [FloatOps F] in
/-- The results are the two SparseCores' rows. -/
theorem all_rows (d : Dev nD) (f : Buf (Elt F) (oLoc d)) :
    (oLoc d ↦{fullShare} f : sProp 𝕄) = bigSep Finset.univ fun c : Fin 2 => oLoc d ↦[oCore c.val]{fullShare} f := by
  rw [← pointsTo_biUnion Finset.univ (ℓ := oLoc d) (fun c : Fin 2 => oCore c.val) oCore_disjoint, oCore_cover]; try rfl

/-- A SparseCore's payload is its tiles' payloads. -/
theorem stP_tiles (d : Dev nD) (c : Fin 2) (f : Buf (Elt F) (oLoc d)) :
    (stP m d c f : sProp 𝕄) = bigSep Finset.univ fun i : Fin 16 => goP m d c i f := by
  unfold stP goP
  rw [core_rows, pointsTo_leaves Finset.univ (tbl m d) 4 (qC c), ← bigSep_sep']; rfl

/-- The table and the results whole are the two SparseCores' payloads. -/
theorem all_cores (d : Dev nD) (f : Buf (Elt F) (oLoc d)) :
    (iprop((xLoc d ↦{fullShare} tbl m d) ∗ oLoc d ↦{fullShare} f) : sProp 𝕄) = bigSep Finset.univ fun c : Fin 2 => stP m d c f := by
  unfold stP
  rw [all_rows, pointsTo_leaves Finset.univ (tbl m d) 1 fullShare, ← bigSep_sep']; rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's payload splits into its tiles' and comes back from what they bring. -/
theorem vecSplit : (K (F := F)).VecSplit' (P m) 0 := by
  intro d c
  show stP m d (Fin.cast nCore_zero c) (m (oLoc d)) ⊢ |={Set.univ}=> iprop(
      (bigSep Finset.univ fun i : Fin ((K (F := F)).nSub 0) => goP m d (Fin.cast nCore_zero c) (Fin.cast nSub_zero i) (m (oLoc d)))
      ∗ ((bigSep Finset.univ fun i : Fin ((K (F := F)).nSub 0) => goP m d (Fin.cast nCore_zero c) (Fin.cast nSub_zero i) (res m d))
          -∗ stP m d (Fin.cast nCore_zero c) (res m d)))
  rw [bigSep_tasks (F := F) (fun i => goP m d (Fin.cast nCore_zero c) i (m (oLoc d))),
    bigSep_tasks (F := F) (fun i => goP m d (Fin.cast nCore_zero c) i (res m d)), ← stP_tiles, ← stP_tiles]
  iintro H; imodintro
  isplitl [H]; · iexact H
  iintro H; iexact H

omit [FloatOps F] in
/-- The launch's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Cert.Proof

end

end
-- ==== Proof.Tile.lean ====
/-
  One tile's task: the four chunks of its rows fetched into two buffers in turn and scanned, the chains of the two
  parities joined, the results staged and written to the tile's row of the partial results.
-/
module

public import proofs.«01_k».proof.Proof.Pay

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx (ix1 ix2 ix3 ix4 eq_ix1 eq_ix2 eq_ix3)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The table, as a tile's program names it. -/
abbrev xV : Memref sig .scVector .hbm S100000x128 .f32 := Memref.whole main_v0_scv
/-- The results. -/
abbrev oV : Memref sig .scVector .hbm S32x2x8x16 .f32 := Memref.whole main_v1_scv
/-- The two chunk buffers. -/
abbrev b0V : Memref sig .scVector .vmem S368x128 .f32 := Memref.whole cc0_scratch0
abbrev b1V : Memref sig .scVector .vmem S368x128 .f32 := Memref.whole cc0_scratch1
/-- The stage of the tile's results. -/
abbrev gV' : Memref sig .scVector .vmem S2x8x16 .f32 := Memref.whole cc0_scratch2

section Tile

variable (d : Dev nD) (L : grid0.Coords)

/-- A tile's coordinates as numbers below the mesh's extents. -/
theorem bound_zero : grid0.bound 0 = 2 := rfl
theorem bound_one : grid0.bound 1 = 16 := rfl
abbrev cL (L : grid0.Coords) : Fin 2 := Fin.cast bound_zero (L 0)
abbrev iL (L : grid0.Coords) : Fin 16 := Fin.cast bound_one (L 1)
/-- The tile's number. -/
abbrev wL (L : grid0.Coords) : ℕ := 16 * (cL L).val + (iL L).val

theorem wL_lt : wL L < 32 := by
  have hc : (cL L).val < 2 := (cL L).isLt
  have hi : (iL L).val < 16 := (iL L).isLt
  show 16 * (cL L).val + (iL L).val < 32
  omega

/-- The tile's row of the results as its program slices it. -/
abbrev oRowK (L : grid0.Coords) : Memref sig .scVector .hbm S2x8x16 .f32 :=
  ((oV).slice (Rect.unit (s := S32x2x8x16) (k0_off34 L) S1x2x8x16.size (k0_off34_inb L)) (fun _ => rfl)).squeeze S2x8x16 squeezes_S1x2x8x16_S2x8x16

/-- Where the row's elements lie in the results. -/
theorem oRowK_emb (x : S2x8x16.Idx) : (oRowK L).view.emb x = ix4 ⟨wL L, wL_lt L⟩ (x 0) (x 1) (x 2) := by
  have hx : Shape.reshapeEquiv (squeezes_S1x2x8x16_S2x8x16).numel_eq x = Fin.cons ⟨0, Nat.one_pos⟩ x :=
    Shape.reshapeEquiv_cons_one (n := 3) (d := ![2, 8, 16]) _ x
  show (Rect.unit (s := S32x2x8x16) (k0_off34 L) S1x2x8x16.size (k0_off34_inb L)).emb (Shape.reshapeEquiv (squeezes_S1x2x8x16_S2x8x16).numel_eq x) = _
  rw [hx]
  have h := k0_off34_eq L
  funext a
  refine Fin.ext ?_
  refine (congrArg (· + 1 * _) (congrFun h a)).trans ?_
  match a with
  | ⟨0, _⟩ => show 16 * (L 0).val + (L 1).val + 1 * 0 = _; rfl
  | ⟨1, _⟩ => show 0 + 1 * (x 0).val = (x 0).val; omega
  | ⟨2, _⟩ => show 0 + 1 * (x 1).val = (x 1).val; omega
  | ⟨3, _⟩ => show 0 + 1 * (x 2).val = (x 2).val; omega

theorem set_oRowK : (oRowK L).view.set = oRow (wL L) := by
  ext i
  simp only [View.set, Finset.mem_map, Finset.mem_univ, true_and, oRow, Finset.mem_filter]
  constructor
  · rintro ⟨x, rfl⟩; rw [oRowK_emb]
  · intro h
    refine ⟨ix3 (i 1) (i 2) (i 3), ?_⟩
    rw [oRowK_emb]
    funext a
    match a with
    | ⟨0, _⟩ => exact Fin.ext h.symm
    | ⟨1, _⟩ => rfl
    | ⟨2, _⟩ => rfl
    | ⟨3, _⟩ => rfl

theorem pts_oRowK (f : Buf (Elt F) (oLoc d)) :
    ((oRowK L).view.loc (V d (cV L) (jV L)) ↦[(oRowK L).view.set]{fullShare} f : sProp 𝕄) = oLoc d ↦[oRow (wL L)]{fullShare} f := by
  rw [set_oRowK]
theorem pts_xV (q : PosShare TreeShare) (f : Buf (Elt F) (xLoc d)) :
    ((xV).view.loc (V d (cV L) (jV L)) ↦{q} f : sProp 𝕄) = xLoc d ↦{q} f := rfl
theorem pts_b0V (f : Buf (Elt F) ((V d (cV L) (jV L)).loc cc0_scratch0)) :
    ((b0V).view.loc (V d (cV L) (jV L)) ↦{fullShare} f : sProp 𝕄) = (V d (cV L) (jV L)).loc cc0_scratch0 ↦{fullShare} f := rfl
theorem pts_b1V (f : Buf (Elt F) ((V d (cV L) (jV L)).loc cc0_scratch1)) :
    ((b1V).view.loc (V d (cV L) (jV L)) ↦{fullShare} f : sProp 𝕄) = (V d (cV L) (jV L)).loc cc0_scratch1 ↦{fullShare} f := rfl
theorem pts_gV (f : Buf (Elt F) ((V d (cV L) (jV L)).loc cc0_scratch2)) :
    ((gV').view.loc (V d (cV L) (jV L)) ↦{fullShare} f : sProp 𝕄) = (V d (cV L) (jV L)).loc cc0_scratch2 ↦{fullShare} f := rfl

abbrev cAcell (d : Dev nD) (c : Fin τ.nSC) (i : Fin τ.nSub) : GSem nD τ sig := (V d c i, .dma cc0_scratch3.sem)
abbrev cBcell (d : Dev nD) (c : Fin τ.nSC) (i : Fin τ.nSub) : GSem nD τ sig := (V d c i, .dma cc0_scratch4.sem)
abbrev cCcell (d : Dev nD) (c : Fin τ.nSC) (i : Fin τ.nSub) : GSem nD τ sig := (V d c i, .dma cc0_scoped0.sem)

/-- The three semaphores the task names are among the subcore's own. -/
theorem ownSems0_V :
    (SparseCore.Cfg.ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch4.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped0.sem : SemLoc sig).isScoped .scVector = true; decide⟩⟩⟩)]

/-- The three scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
        SparseCore.Cfg.mem_ownRefs_of_owner (p := Proc.scVector (cV L) (jV L)) (b := (Proc.scVector (cV L) (jV L)).devRef cc0_scratch2) rfl⟩⟩)]

/-- A chunk of the table as the task slices it. -/
abbrev chunkK (L : grid0.Coords) (r : Fin 4) : Memref sig .scVector .hbm S368x128 .f32 :=
  (xV).slice (Rect.unit (s := S100000x128) (k0_off1 L (BitVec.ofNat 32 (368 * r.val))) S368x128.size (k0_off1_inb L r)) (fun _ => rfl)

/-- A chunk of the table's elements. -/
theorem chunk_at (X : S100000x128.Idx → F .f32) (r : Fin 4) (a : Fin 368) (c : Fin 128) :
    (chunkK L r).view.read (Elt F) X (ix2 a c) = cell X (1472 * wL L + 368 * r.val + a.val) c.val := by
  have h := k0_off1_eq L r
  have hr := r.isLt
  have ha := a.isLt
  have hw := wL_lt L
  show X ((Rect.unit (s := S100000x128) (k0_off1 L (BitVec.ofNat 32 (368 * r.val))) S368x128.size (k0_off1_inb L r)).emb (ix2 a c)) = X _
  refine congrArg X (funext fun x => Fin.ext ?_)
  refine (congrArg (· + 1 * _) (congrFun h x)).trans ?_
  match x with
  | ⟨0, _⟩ =>
    show 23552 * (L 0).val + 1472 * (L 1).val + 368 * r.val + 1 * a.val = (1472 * (16 * (L 0).val + (L 1).val) + 368 * r.val + a.val) % 100000
    have : wL L = 16 * (L 0).val + (L 1).val := rfl
    omega
  | ⟨1, _⟩ => show 0 + 1 * c.val = c.val % 128; have := c.isLt; omega

/-- A chunk buffer written whole with a chunk of the table holds the chunk's elements. -/
theorem fetched0 (X : S100000x128.Idx → F .f32) (r : Fin 4) (f : Buf (Elt F) ((b0V).view.loc (V d (cV L) (jV L)))) (a : Fin 368) (c : Fin 128) :
    (b0V).view.read (Elt F) (View.write (Elt F) (b0V).view f ((chunkK L r).view.read (Elt F) X) Finset.univ) (ix2 a c)
      = cell X (1472 * wL L + 368 * r.val + a.val) c.val :=
  (congrFun (View.write_whole_univ (Val := Elt F) cc0_scratch0 f ((chunkK L r).view.read (Elt F) X)) (ix2 a c)).trans (chunk_at L X r a c)
theorem fetched1 (X : S100000x128.Idx → F .f32) (r : Fin 4) (f : Buf (Elt F) ((b1V).view.loc (V d (cV L) (jV L)))) (a : Fin 368) (c : Fin 128) :
    (b1V).view.read (Elt F) (View.write (Elt F) (b1V).view f ((chunkK L r).view.read (Elt F) X) Finset.univ) (ix2 a c)
      = cell X (1472 * wL L + 368 * r.val + a.val) c.val :=
  (congrFun (View.write_whole_univ (Val := Elt F) cc0_scratch1 f ((chunkK L r).view.read (Elt F) X)) (ix2 a c)).trans (chunk_at L X r a c)

/-- A vector of sixteen behind two unit axes. -/
theorem flat16 (v : FVec F S16 .f32) (x : S1x1x16.Idx) : (shapeCast S1x1x16 v shapeCasts_S16_S1x1x16 : FVec F S1x1x16 .f32) x = v (ix1 (x 2)) := by
  refine congrArg v (Shape.reshapeEquiv_eq_of_rowMajor _ ?_)
  have h0 : (x 0).val < 1 := (x 0).isLt
  have h1 : (x 1).val < 1 := (x 1).isLt
  refine (Shape.rowMajor_val_one _).trans (Eq.trans ?_ (Shape.rowMajor_val_three x).symm)
  show (x 2).val = ((x 0).val * 1 + (x 1).val) * 16 + (x 2).val
  omega

variable [FloatOps F] (m : (ℓ : Loc nD τ sig) → Buf (Elt F) ℓ)

/-- A store of a column group's maxima is the stage's plane 0 there. -/
theorem piece_max (X : S100000x128.Idx → F .f32) (v : BitVec 32) (b g : ℕ) {off : Fin 3 → ℕ} (h : off = ![0, g, 0])
    (inb : ∀ a, off a + S1x1x16.size a ≤ S2x8x16.size a) (x : S1x1x16.Idx) :
    (shapeCast S1x1x16 (tileMax X v b g) shapeCasts_S16_S1x1x16 : FVec F S1x1x16 .f32) x
      = stageOf X v b ((Rect.unit (s := S2x8x16) off S1x1x16.size inb).emb x) := by
  subst h
  have e0 : ((Rect.unit (s := S2x8x16) ![0, g, 0] S1x1x16.size inb).emb x 0).val = 0 := by
    have : (x 0).val < 1 := (x 0).isLt
    show 0 + 1 * (x 0).val = 0; omega
  have e1 : ((Rect.unit (s := S2x8x16) ![0, g, 0] S1x1x16.size inb).emb x 1).val = g := by
    have : (x 1).val < 1 := (x 1).isLt
    show g + 1 * (x 1).val = g; omega
  have e2 : (Rect.unit (s := S2x8x16) ![0, g, 0] S1x1x16.size inb).emb x 2 = x 2 := Fin.ext (by show 0 + 1 * (x 2).val = (x 2).val; omega)
  unfold stageOf
  rw [if_pos e0, e1, e2, flat16]

/-- A store of a column group's rows is the stage's plane 1 there. -/
theorem piece_row (X : S100000x128.Idx → F .f32) (v : BitVec 32) (b g : ℕ) {off : Fin 3 → ℕ} (h : off = ![1, g, 0])
    (inb : ∀ a, off a + S1x1x16.size a ≤ S2x8x16.size a) (x : S1x1x16.Idx) :
    (shapeCast S1x1x16 (sitofp .f32 (tileRow X v b g) : FVec F S16 .f32) shapeCasts_S16_S1x1x16 : FVec F S1x1x16 .f32) x
      = stageOf X v b ((Rect.unit (s := S2x8x16) off S1x1x16.size inb).emb x) := by
  subst h
  have e0 : ((Rect.unit (s := S2x8x16) ![1, g, 0] S1x1x16.size inb).emb x 0).val ≠ 0 := by
    show 1 + 1 * (x 0).val ≠ 0; omega
  have e1 : ((Rect.unit (s := S2x8x16) ![1, g, 0] S1x1x16.size inb).emb x 1).val = g := by
    have : (x 1).val < 1 := (x 1).isLt
    show g + 1 * (x 1).val = g; omega
  have e2 : (Rect.unit (s := S2x8x16) ![1, g, 0] S1x1x16.size inb).emb x 2 = x 2 := Fin.ext (by show 0 + 1 * (x 2).val = (x 2).val; omega)
  unfold stageOf
  rw [if_neg e0, e1, e2, flat16]; rfl

set_option maxHeartbeats 4000000 in
/-- The task on tile `(L 0, L 1)` of device `d`: it brings its row of the results back holding its own. -/
theorem tile_body (hF : (K (F := F)).Facts) (O : CellTallies nD τ sig (HIx 1)) (W : Waits sig (HIx 1)) (hO : ∀ g, O g none = 0) :
    iprop(levAts (K (F := F)).L (K (F := F)).lev ∗ emp
        ∗ goP m d (cL L) (iL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_argmax_body L xV (Memref.isWhole_whole _) oV (Memref.isWhole_whole _)
            b0V (Memref.isWhole_whole _) b1V (Memref.isWhole_whole _) gV' (Memref.isWhole_whole _) cc0_scratch3 cc0_scratch4 cc0_scoped0)
          fun _ => iprop(goP m d (cL L) (iL L) (res m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_argmax_body_eq_skeleton]; unfold cc0__sc_argmax_body_skel
  simp only [k0_part9_eq_skeleton]; unfold k0_part9_skel
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%f0, Hb0⟩, ⟨%f1, Hb1⟩, ⟨%f2, Hg⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_oRowK (F := F) d L _).symm) $$ Ho
  ihave Hx' := (Entails.of_eq (pts_xV (F := F) d L _ _).symm) $$ Hx
  ihave Hb0' := (Entails.of_eq (pts_b0V (F := F) d L _).symm) $$ Hb0
  ihave Hb1' := (Entails.of_eq (pts_b1V (F := F) d L _).symm) $$ Hb1
  ihave Hg' := (Entails.of_eq (pts_gV (F := F) d L _).symm) $$ Hg
  first | sl_exec | exact UNK_EX
  have e0 : carry (tbl m d) (1472 * wL L) (184 * 0)
    = (k0_pay206, k0_pay206, k0_pay206, k0_pay206, k0_pay206, k0_pay206, k0_pay206, k0_pay206, k0_pay206, k0_pay206, k0_pay206, k0_pay206, k0_pay206, k0_pay206, k0_pay206, k0_pay206,
        k0_pay207, k0_pay207, k0_pay207, k0_pay207, k0_pay207, k0_pay207, k0_pay207, k0_pay207, k0_pay207, k0_pay207, k0_pay207, k0_pay207, k0_pay207, k0_pay207, k0_pay207, k0_pay207, k0_pay207) := rfl
  rw [← e0, Prog.bind_assoc]
  iapply (scan d L xV (Memref.isWhole_whole _) oV (Memref.isWhole_whole _) b0V (Memref.isWhole_whole _) b1V (Memref.isWhole_whole _) gV' (Memref.isWhole_whole _)
    cc0_scratch3 cc0_scratch4 cc0_scoped0 (tbl m d) (1472 * wL L) 0 _ (fetched0 d L (tbl m d) 0 _)) $$ [Hb0']
  · iexact Hb0'
  iintro Hb0'
  rw [body2_eq]
  sl_exec
  rw [Prog.bind_assoc]
  iapply (scan d L xV (Memref.isWhole_whole _) oV (Memref.isWhole_whole _) b1V (Memref.isWhole_whole _) b0V (Memref.isWhole_whole _) gV' (Memref.isWhole_whole _)
    cc0_scratch3 cc0_scratch4 cc0_scoped0 (tbl m d) (1472 * wL L) 1 _ (fetched1 d L (tbl m d) 1 _)) $$ [Hb1']
  · iexact Hb1'
  iintro Hb1'
  sl_exec
  rw [body3_eq]
  iapply (scan d L xV (Memref.isWhole_whole _) oV (Memref.isWhole_whole _) b0V (Memref.isWhole_whole _) b1V (Memref.isWhole_whole _) gV' (Memref.isWhole_whole _)
    cc0_scratch3 cc0_scratch4 cc0_scoped0 (tbl m d) (1472 * wL L) 2 _ (fetched0 d L (tbl m d) 2 _)) $$ [Hb0']
  · iexact Hb0'
  iintro Hb0'
  sl_exec
  rw [body4_eq]
  iapply (scan d L xV (Memref.isWhole_whole _) oV (Memref.isWhole_whole _) b1V (Memref.isWhole_whole _) b0V (Memref.isWhole_whole _) gV' (Memref.isWhole_whole _)
    cc0_scratch3 cc0_scratch4 cc0_scoped0 (tbl m d) (1472 * wL L) 3 _ (fetched1 d L (tbl m d) 3 _)) $$ [Hb1']
  · iexact Hb1'
  iintro Hb1'
  sl_exec
  sl_step
  have hv : tile_body.sl.v2 L = BitVec.ofNat 32 (1472 * wL L) := by
    apply BitVec.eq_of_toNat_eq
    have h := wL_lt L
    have e : wL L = 16 * cL L + iL L := rfl
    have e' : (tile_body.sl.v2 L).toNat = ((((cL L).val % 2 ^ 32 * 16) % 2 ^ 32 + (iL L).val % 2 ^ 32) % 2 ^ 32 * 1472) % 2 ^ 32 := by
      unfold tile_body.sl.v2 tile_body.sl.v1 tile_body.sl.v0
      simp only [Scalar.muli, Scalar.addi, BitVec.toNat_mul, BitVec.toNat_add]
      rfl
    rw [e', BitVec.toNat_ofNat]
    omega
  have hst : ∀ y, (gV').view.read (Elt F) ((gV').view.writes (Elt F) f2 (tile_body.sl.Hg'_16 d L m)) y
      = stageOf (tbl m d) (tile_body.sl.v2 L) (1472 * wL L) y := fun y =>
    View.read_writes_apply_of_pieces _ _ (stageOf (tbl m d) (tile_body.sl.v2 L) (1472 * wL L)) (tile_body.sl.Hg'_16 d L m)
      (List.forall_mem_cons.mpr ⟨piece_row (tbl m d) (tile_body.sl.v2 L) (1472 * wL L) 7 rfl inb_S2x8x16_S1x1x16_1_7_0,
        List.forall_mem_cons.mpr ⟨piece_max (tbl m d) (tile_body.sl.v2 L) (1472 * wL L) 7 rfl inb_S2x8x16_S1x1x16_0_7_0,
        List.forall_mem_cons.mpr ⟨piece_row (tbl m d) (tile_body.sl.v2 L) (1472 * wL L) 6 rfl inb_S2x8x16_S1x1x16_1_6_0,
        List.forall_mem_cons.mpr ⟨piece_max (tbl m d) (tile_body.sl.v2 L) (1472 * wL L) 6 rfl inb_S2x8x16_S1x1x16_0_6_0,
        List.forall_mem_cons.mpr ⟨piece_row (tbl m d) (tile_body.sl.v2 L) (1472 * wL L) 5 rfl inb_S2x8x16_S1x1x16_1_5_0,
        List.forall_mem_cons.mpr ⟨piece_max (tbl m d) (tile_body.sl.v2 L) (1472 * wL L) 5 rfl inb_S2x8x16_S1x1x16_0_5_0,
        List.forall_mem_cons.mpr ⟨piece_row (tbl m d) (tile_body.sl.v2 L) (1472 * wL L) 4 rfl inb_S2x8x16_S1x1x16_1_4_0,
        List.forall_mem_cons.mpr ⟨piece_max (tbl m d) (tile_body.sl.v2 L) (1472 * wL L) 4 rfl inb_S2x8x16_S1x1x16_0_4_0,
        List.forall_mem_cons.mpr ⟨piece_row (tbl m d) (tile_body.sl.v2 L) (1472 * wL L) 3 rfl inb_S2x8x16_S1x1x16_1_3_0,
        List.forall_mem_cons.mpr ⟨piece_max (tbl m d) (tile_body.sl.v2 L) (1472 * wL L) 3 rfl inb_S2x8x16_S1x1x16_0_3_0,
        List.forall_mem_cons.mpr ⟨piece_row (tbl m d) (tile_body.sl.v2 L) (1472 * wL L) 2 rfl inb_S2x8x16_S1x1x16_1_2_0,
        List.forall_mem_cons.mpr ⟨piece_max (tbl m d) (tile_body.sl.v2 L) (1472 * wL L) 2 rfl inb_S2x8x16_S1x1x16_0_2_0,
        List.forall_mem_cons.mpr ⟨piece_row (tbl m d) (tile_body.sl.v2 L) (1472 * wL L) 1 rfl inb_S2x8x16_S1x1x16_1_1_0,
        List.forall_mem_cons.mpr ⟨piece_max (tbl m d) (tile_body.sl.v2 L) (1472 * wL L) 1 rfl inb_S2x8x16_S1x1x16_0_1_0,
        List.forall_mem_cons.mpr ⟨piece_row (tbl m d) (tile_body.sl.v2 L) (1472 * wL L) 0 rfl inb_S2x8x16_S1x1x16_1_0_0,
        List.forall_mem_cons.mpr ⟨piece_max (tbl m d) (tile_body.sl.v2 L) (1472 * wL L) 0 rfl inb_S2x8x16_S1x1x16_0_0_0,
          fun _ h => absurd h List.not_mem_nil⟩⟩⟩⟩⟩⟩⟩⟩⟩⟩⟩⟩⟩⟩⟩⟩) y
      (View.cover_of_tiled (tile_body.sl.Hg'_16 d L m) S1x1x16.size rfl y)
  rw [hv] at hst
  have hout : ∀ i ∈ (oRowK L).view.set, (oRowK L).view.writes (Elt F) (m (oLoc d)) [⟨Rect.whole S2x8x16, tile_body.sl.dma32 d L m f2⟩] i = res m d i := by
    intro i hi
    obtain ⟨x, -, rfl⟩ := Finset.mem_map.mp hi
    have h := congrFun (View.read_writes_whole (Val := Elt F) (oRowK L).view (m (oLoc d)) (tile_body.sl.dma32 d L m f2)) x
    have h' : (oRowK L).view.writes (Elt F) (m (oLoc d)) [⟨Rect.whole S2x8x16, tile_body.sl.dma32 d L m f2⟩] ((oRowK L).view.emb x) = tile_body.sl.dma32 d L m f2 x :=
      ((View.read_apply _ _).trans (cast_eq _ _)).symm.trans h
    refine h'.trans ((hst x).trans ?_)
    rw [oRowK_emb]
    exact congrArg (stageOf (tbl m d) (BitVec.ofNat 32 (1472 * wL L)) (1472 * wL L)) (eq_ix3 x)
  isplitl [Hx' Ho']
  · isplitl [Hx']; · iexact Hx'
    iapply (Entails.of_eq ((pointsTo_congr hout).trans (pts_oRowK (F := F) d L _))); iexact Ho'
  isplitl [Hb0' Hb1' Hg' Hbufs]
  · isplitl [Hb0']; · iexists _; iexact Hb0'
    isplitl [Hb1']; · iexists _; iexact Hb1'
    isplitl [Hg']; · iexists _; iexact Hg'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The tile's obligation -/

/-- The grid coordinates of subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_argmax_body (coordsV c s)
          xV (Memref.isWhole_whole _) oV (Memref.isWhole_whole _) b0V (Memref.isWhole_whole _)
          b1V (Memref.isWhole_whole _) gV' (Memref.isWhole_whole _) cc0_scratch3 cc0_scratch4 cc0_scoped0) ⟨⟩ c s := rfl

omit [FloatOps F] in
/-- The tile's own waits carry no round: they meet the weaker bound the launch asks for. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) m hF O W hO).trans (wp_mono frame _ _ fun _ => obl_post)

end Tile

end Cert.Proof

end

end
-- ==== Proof.TC.lean ====
/-
  The TensorCore's kernel: what its body makes of a block of rows, and the accumulator it leaves after every block.
-/
module

public import proofs.«01_k».proof.Proof.Pay
public import proofs.«01_k».proof.Proof.Gen.KernelIdeal.Launch
public import proofs.«01_k».proof.Proof.Gen.KernelIdeal.Points
public import Idealize.ShloMosaic.Lib.Pipeline.Frame
public import Idealize.ShloMosaic.Lib.Pipeline.Regions
public import Idealize.ShloMosaic.Lib.Pipeline.Value

@[expose] public section

noncomputable section

namespace Cert.Proof

open Cert.KernelIdeal Cert.KernelIdeal.Gen

open Idealize.ShloMosaic Idealize.ShloMosaic.Tactic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4 eq_ix1 eq_ix2 eq_ix3)
open Idealize.ShloMosaic.Pipeline (Dat Cfg Window BodyObligation cellOf)

variable {F : FTy → Type} [FloatOps F]

local notation "𝕄" => MT nD τ sig (HIx 1) (Elt F) ℕ UU ℕ

section Body

/-- Memref `M`'s buffer on core `c`: its contents, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

variable (c : Dev nD) (i : grid1.Coords) (M0 : Memref sig .tc .vmem S4000x128 .f32) (h0 : M0.IsWhole)
  (M1 : Memref sig .tc .vmem S2x128 .f32) (h1 : M1.IsWhole) (f0 : Bf (F := F) c M0) (f1 : Bf (F := F) c M1)

theorem flat128 (v : FVec F S128 .f32) (x : S1x128.Idx) : (shapeCast S1x128 v shapeCasts_S128_S1x128 : FVec F S1x128 .f32) x = v (ix1 (x 1)) := by
  refine congrArg v (Shape.reshapeEquiv_eq_of_rowMajor _ ?_)
  have h0 : (x 0).val < 1 := (x 0).isLt
  refine (Shape.rowMajor_val_one _).trans (Eq.trans ?_ (Shape.rowMajor_val_two x).symm)
  show (x 1).val = (x 0).val * 128 + (x 1).val
  omega

/-- One row of an accumulator. -/
def accRow (Y : S2x128.Idx → F .f32) (p : Fin 2) : FVec F S128 .f32 := fun x => Y (ix2 p (x 0))

/-- The accumulator after the first block `B`. -/
def accFirst (B : FVec F S4000x128 .f32) (y : S2x128.Idx) : F .f32 :=
  if (y 0).val = 0 then k1_pay2 B (ix1 (y 1)) else k1_pay3 i B (ix1 (y 1))

/-- The accumulator `Y` after a further block `B`. -/
def accNext (B : FVec F S4000x128 .f32) (Y : S2x128.Idx → F .f32) (y : S2x128.Idx) : F .f32 :=
  if (y 0).val = 0 then select (cmpf .ogt (k1_pay2 B) (accRow Y 0)) (k1_pay2 B) (accRow Y 0) (ix1 (y 1))
  else select (cmpf .ogt (k1_pay2 B) (accRow Y 0)) (k1_pay3 i B) (accRow Y 1) (ix1 (y 1))

theorem pay6_row (p : Fin 2) {off : Fin 2 → ℕ} (h : off = ![p.val, 0]) (inb : ∀ a, off a + S1x128.size a ≤ S2x128.size a) :
    k1_pay6 (M1.view.readAt (Elt F) (Rect.unit (s := S2x128) off S1x128.size inb).toLoadRect f1) = accRow (M1.view.read (Elt F) f1) p := by
  subst h
  funext x
  have e : Shape.reshapeEquiv shapeCasts_S1x128_S128 x = (ix2 0 (x 0) : S1x128.Idx) := by
    refine Shape.reshapeEquiv_eq_of_rowMajor _ ?_
    refine (Shape.rowMajor_val_two _).trans (Eq.trans ?_ (Shape.rowMajor_val_one x).symm)
    show 0 * 128 + (x 0).val = (x 0).val
    omega
  refine (congrArg (M1.view.readAt (Elt F) _ f1) e).trans ?_
  refine congrArg (M1.view.read (Elt F) f1) ?_
  funext a
  refine Fin.ext ?_
  match a with
  | 0 => show p.val + 1 * 0 = p.val; omega
  | 1 => show 0 + 1 * (x 0).val = (x 0).val; omega

theorem pay6_row0 : k1_pay6 (M1.view.readAt (Elt F) (Rect.unit (s := S2x128) ![0, 0] S1x128.size inb_S2x128_S1x128_0_0).toLoadRect f1) = accRow (M1.view.read (Elt F) f1) 0 :=
  pay6_row c M1 f1 0 rfl _
theorem pay6_row1 : k1_pay6 (M1.view.readAt (Elt F) (Rect.unit (s := S2x128) ![1, 0] S1x128.size inb_S2x128_S1x128_1_0).toLoadRect f1) = accRow (M1.view.read (Elt F) f1) 1 :=
  pay6_row c M1 f1 1 rfl _

theorem readAt_block (inb : ∀ a, (![0, 0] : Fin 2 → ℕ) a + S4000x128.size a ≤ S4000x128.size a) :
    M0.view.readAt (Elt F) (Rect.unit (s := S4000x128) ![0, 0] S4000x128.size inb).toLoadRect f0 = M0.view.read (Elt F) f0 := by
  funext x
  refine congrArg (M0.view.read (Elt F) f0) ?_
  funext a
  refine Fin.ext ?_
  match a with
  | 0 => show 0 + 1 * (x 0).val = (x 0).val; omega
  | 1 => show 0 + 1 * (x 1).val = (x 1).val; omega

theorem emb_row (p : ℕ) {off : Fin 2 → ℕ} (h : off = ![p, 0]) (inb : ∀ a, off a + S1x128.size a ≤ S2x128.size a) (x : S1x128.Idx) :
    ((Rect.unit (s := S2x128) off S1x128.size inb).emb x 0).val = p ∧ (Rect.unit (s := S2x128) off S1x128.size inb).emb x 1 = x 1 := by
  subst h
  have h0 : (x 0).val < 1 := (x 0).isLt
  refine ⟨?_, Fin.ext ?_⟩
  · show p + 1 * (x 0).val = p; omega
  · show 0 + 1 * (x 1).val = (x 1).val; omega

/-- The two rows written, the accumulator reads as the vectors written. -/
theorem read_rows (f : Bf (F := F) c M1) (a b : FVec F S128 .f32) :
    M1.view.read (Elt F) (M1.view.writes (Elt F) f
        [⟨Rect.unit (s := S2x128) ![1, 0] S1x128.size inb_S2x128_S1x128_1_0, (shapeCast S1x128 b shapeCasts_S128_S1x128 : FVec F S1x128 .f32)⟩,
          ⟨Rect.unit (s := S2x128) ![0, 0] S1x128.size inb_S2x128_S1x128_0_0, (shapeCast S1x128 a shapeCasts_S128_S1x128 : FVec F S1x128 .f32)⟩])
      = fun y => if (y 0).val = 0 then a (ix1 (y 1)) else b (ix1 (y 1)) := by
  refine funext fun y => View.read_writes_apply_of_pieces (Val := Elt F) M1.view f (fun y => if (y 0).val = 0 then a (ix1 (y 1)) else b (ix1 (y 1))) _
    (List.forall_mem_cons.mpr ⟨fun x => ?_, List.forall_mem_cons.mpr ⟨fun x => ?_, fun _ h => absurd h List.not_mem_nil⟩⟩) y
    (View.cover_of_tiled (s := S2x128) _ S1x128.size rfl y)
  · obtain ⟨e0, e1⟩ := emb_row 1 rfl inb_S2x128_S1x128_1_0 x
    refine (flat128 _ x).trans ?_
    dsimp only
    rw [if_neg (by rw [e0]; decide), e1]
  · obtain ⟨e0, e1⟩ := emb_row 0 rfl inb_S2x128_S1x128_0_0 x
    refine (flat128 _ x).trans ?_
    dsimp only
    rw [if_pos e0, e1]

theorem pay8_eq (B : FVec F S4000x128 .f32) (v : FVec F S1x128 .f32) :
    k1_pay8 B v = shapeCast S1x128 (select (cmpf .ogt (k1_pay2 B) (k1_pay6 v)) (k1_pay2 B) (k1_pay6 v)) shapeCasts_S128_S1x128 := rfl
theorem pay9_eq (B : FVec F S4000x128 .f32) (v w : FVec F S1x128 .f32) :
    k1_pay9 i B v w = shapeCast S1x128 (select (cmpf .ogt (k1_pay2 B) (k1_pay6 v)) (k1_pay3 i B) (k1_pay6 w)) shapeCasts_S128_S1x128 := rfl

theorem body_first (c1 : k1_cond1 i = 1#1) (c2 : ¬ k1_cond2 i = 1#1) (E : Set ℕ) (Q : PUnit → sProp 𝕄) :
    iprop(pt c M0 f0 ∗ pt c M1 f1 ∗ (∀ f, ⌜M1.view.read (Elt F) f = accFirst i (M0.view.read (Elt F) f0)⌝ -∗ iprop(pt c M0 f0 ∗ pt c M1 f) -∗ Q ⟨⟩))
      ⊢ wp frame (wpE (defs₀ (F := F)) 𝒱₀ c none) E (cc1__tc_argmax_body i M0 h0 M1 h1) Q := by
  simp only [cc1__tc_argmax_body_eq_skeleton]; unfold cc1__tc_argmax_body_skel
  iintro ⟨H0, H1, Hk⟩
  sl_exec!
  sl_step
  have key : M1.view.read (Elt F) (M1.view.writes (Elt F) M1.view.junk (body_first.sl.H1_2 c i M0 f0)) = accFirst i (M0.view.read (Elt F) f0) := by
    unfold body_first.sl.H1_2
    rw [readAt_block]
    exact read_rows c M1 _ _ _
  iapply Hk $$ %_ %key [H0 H1]
  isplitl [H0]; · iexact H0
  iexact H1

theorem body_next (c1 : ¬ k1_cond1 i = 1#1) (c2 : k1_cond2 i = 1#1) (E : Set ℕ) (Q : PUnit → sProp 𝕄) :
    iprop(pt c M0 f0 ∗ pt c M1 f1 ∗ (∀ f, ⌜M1.view.read (Elt F) f = accNext i (M0.view.read (Elt F) f0) (M1.view.read (Elt F) f1)⌝ -∗ iprop(pt c M0 f0 ∗ pt c M1 f) -∗ Q ⟨⟩))
      ⊢ wp frame (wpE (defs₀ (F := F)) 𝒱₀ c none) E (cc1__tc_argmax_body i M0 h0 M1 h1) Q := by
  simp only [cc1__tc_argmax_body_eq_skeleton]; unfold cc1__tc_argmax_body_skel
  iintro ⟨H0, H1, Hk⟩
  sl_exec!
  sl_step
  have key : M1.view.read (Elt F) (M1.view.writes (Elt F) M1.view.junk (body_next.sl.H1_2 c i M0 M1 f0 f1)) = accNext i (M0.view.read (Elt F) f0) (M1.view.read (Elt F) f1) := by
    unfold body_next.sl.H1_2
    unfold body_next.sl.v28
    rw [readAt_block]
    rw [pay8_eq, pay9_eq, pay6_row0, pay6_row1, read_rows c M1]
    rfl
  iapply Hk $$ %_ %key [H0 H1]
  isplitl [H0]; · iexact H0
  iexact H1

end Body

end Cert.Proof

end

end
-- ==== Proof.Region.lean ====
/-
  The TensorCore's pipeline: what each of its fourteen points finds and leaves, the obligation of its body, and the
  region over any state of the arrays that it is entered from.
-/
module

public import proofs.«01_k».proof.Proof.TC
public import Idealize.ShloMosaic.Lib.Pipeline.RegionsLoop
public import Idealize.ShloMosaic.Lib.Pipeline.ValueKit.Geometry

@[expose] public section

noncomputable section

namespace Cert.Proof

open Cert.KernelIdeal Cert.KernelIdeal.Gen

open Idealize.ShloMosaic Idealize.ShloMosaic.Tactic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4 eq_ix1 eq_ix2 eq_ix3)
open Idealize.ShloMosaic.Pipeline (Dat Cfg Window BodyObligation cellOf)

variable {F : FTy → Type} [FloatOps F]

local notation "𝕄" => MT nD τ sig (HIx 1) (Elt F) ℕ UU ℕ

/-! ## What the points leave -/

/-- The block of rows point `t` reads of the table `X`. -/
def blkOf (X : FVec F S100000x128 .f32) (t : Fin cfg1.N) : FVec F S4000x128 .f32 := ((cfg1.win 0).blk t).view.read (Elt F) X

theorem blkOf_apply (X : FVec F S100000x128 .f32) (t : Fin cfg1.N) (y : S4000x128.Idx) :
    blkOf X t y = X (ix2 (n0 := 100000) (n1 := 128) ⟨4000 * (11 + t.val) + (y 0).val, by
      have h0 : (y 0).val < 4000 := (y 0).isLt
      have h1 : t.val < 14 := t.isLt
      omega⟩ (y 1)) := by
  have e : ∀ t : Fin cfg1.N, win1_0.index t = ![11 + t.val, 0] := (by decide +kernel : ∀ t : Fin grid1.N, win1_0.index t = ![11 + t.val, 0])
  refine congrArg X ?_
  blk_ext [e]

/-- The accumulator after the points up to `n`. -/
def accOf (X : FVec F S100000x128 .f32) : (n : ℕ) → n < cfg1.N → S2x128.Idx → F .f32
  | 0, h => accFirst (grid1.coords ⟨0, h⟩) (blkOf X ⟨0, h⟩)
  | n + 1, h => accNext (grid1.coords ⟨n + 1, h⟩) (blkOf X ⟨n + 1, h⟩) (accOf X n (Nat.lt_of_succ_lt h))

theorem cond_first : ∀ t : Fin grid1.N, t.val = 0 → k1_cond1 (grid1.coords t) = 1#1 ∧ ¬ k1_cond2 (grid1.coords t) = 1#1 := by decide +kernel
theorem cond_next : ∀ t : Fin grid1.N, t.val ≠ 0 → ¬ k1_cond1 (grid1.coords t) = 1#1 ∧ k1_cond2 (grid1.coords t) = 1#1 := by decide +kernel

theorem live1 (w : Fin 2) (i : grid1.Coords) : idle1 w i = false := by
  revert w i
  decide +kernel

section Data

variable (W : Dev nD → Valuation τ sig (Elt F)) (b : ℕ)

/-- The pairs the TensorCore may have waited on when it enters the region. -/
def recd (d : Dev nD) : Set (SemLoc sig × HIx 1) := {p | (K (F := F)).lev (T d, p.1) p.2 ≤ b}

/-- The table the region is entered with. -/
abbrev tabOf (d : Dev nD) : FVec F S100000x128 .f32 := W d (Proc.devRef .tc main_v0)

/-- The data of the region: the two arrays as it is entered, the block of rows at every point, the accumulator after it. -/
def dat (d : Dev nD) : Dat τ (Elt F) (HIx 1) ℕ UU ℕ cfg1 d where
  A w := W d (Proc.devRef .tc (Pipeline.arrRef spec1 w))
  after w t := match w with
    | ⟨0, _⟩ => blkOf (tabOf W d) t
    | ⟨1, _⟩ => accOf (tabOf W d) t.val t.isLt
  Φ _ := Pipeline.scopedRest (Ix := HIx 1) (Name := ℕ) (U := UU) (Lvl := ℕ) (Val := Elt F) spec1 d
  q _ := fullShare
  owed _ := 0
  recorded _ := recd (F := F) b d

theorem before_rows (d : Dev nD) (t : Fin cfg1.N) (x : (cfg1.win 0).block.Idx → Elt F (cfg1.win 0).elt) :
    (dat W b d).before 0 t x = blkOf (tabOf W d) t := by
  rw [Pipeline.Dat.before_fetched (dat W b d) 0 t (fetch1_0 t)]
  rfl

theorem before_acc (d : Dev nD) (n : ℕ) (h : n + 1 < cfg1.N) (x : (cfg1.win 1).block.Idx → Elt F (cfg1.win 1).elt) :
    (dat W b d).before 1 ⟨n + 1, h⟩ x = accOf (tabOf W d) n (Nat.lt_of_succ_lt h) := by
  rw [Pipeline.Dat.before_out_kept (dat W b d) 1 rfl ⟨n + 1, h⟩ (Nat.succ_ne_zero n) (by
    refine Bool.eq_false_iff.mpr fun hf => ?_
    have h1 := (flush1_1 _).mp hf
    have h2 : n + 1 < 14 := h
    have h3 : (n + 1 - 1) % 14 = 13 := h1
    omega) (live1 1) (fun _ _ => rfl)]
  rfl

/-- A staging buffer owned at `X` is its points-to at contents that read as `X`. -/
theorem owns_stage {d : Dev nD} {sp : Space} {sh : Shape} {e : EltTy} {M : Memref sig .tc sp sh e} (h : M.IsWhole) (X : sh.Idx → Elt F e) :
    (owns (d : Thread nD τ) M fullShare X : sProp 𝕄) = iprop(∃ f, ⌜M.view.read (Elt F) f = X⌝ ∗ pt d M f) := by
  unfold owns
  rw [h.set_eq_univ]

/-- The two staging buffers of point `t`. -/
abbrev rowsAt (t : Fin cfg1.N) := stage1_0 (cfg1.slots t 0)
abbrev accAt (t : Fin cfg1.N) := stage1_1 (cfg1.slots t 1)

theorem body_at (t : Fin cfg1.N) : defs₀ (F := F) .tc cfg1.body (cfg1.bodyArgs t (cfg1.slots t))
    = cc1__tc_argmax_body (grid1.coords t) (rowsAt t) (hstage1_0 _) (accAt t) (hstage1_1 _) := rfl

set_option maxHeartbeats 2000000 in
/-- The body obligation of the pipeline: each point's block and accumulator are what `dat` states. -/
theorem body_obligation (d : Dev nD) : BodyObligation (dat W b d) (defs₀ (F := F)) 𝒱₀ (none : HIx 1) Set.univ := fun t => by
  rw [bigSep_W1, bigSep_W1]
  simp only [live1]
  rw [show (dat W b d).Φ t.castSucc = (dat W b d).Φ t.succ from rfl,
    show (dat W b d).owesAt none t.succ = (dat W b d).owesAt none t.castSucc from rfl]
  rw [body_at]
  obtain ⟨n, hn⟩ := t
  have e0 := fun X => owns_stage (F := F) (d := d) (M := stage1_0 (cfg1.slots ⟨n, hn⟩ 0)) (hstage1_0 _) X
  have e1 := fun X => owns_stage (F := F) (d := d) (M := stage1_1 (cfg1.slots ⟨n, hn⟩ 1)) (hstage1_1 _) X
  iintro ⟨HΦ, Howes, ⟨%d0, H0⟩, ⟨%d1, H1⟩⟩
  ihave H0 := (Entails.of_eq (e0 _)) $$ H0
  ihave H1 := (Entails.of_eq (e1 _)) $$ H1
  icases H0 with ⟨%f0, %hf0, H0⟩
  icases H1 with ⟨%f1, %hf1, H1⟩
  rw [before_rows] at hf0
  cases n with
  | zero =>
    obtain ⟨c1, c2⟩ := cond_first ⟨0, hn⟩ rfl
    have run := body_first d (grid1.coords ⟨0, hn⟩) (rowsAt ⟨0, hn⟩) (hstage1_0 _) (accAt ⟨0, hn⟩) (hstage1_1 _) f0 f1 c1 c2 Set.univ
    generalize hi : grid1.coords ⟨0, hn⟩ = i at *
    iapply (run _)
    isplitl [H0]; · iexact H0
    isplitl [H1]; · iexact H1
    iintro %f %hf ⟨H0, H1⟩
    isplitl [HΦ]; · iexact HΦ
    isplitl [Howes]; · iexact Howes
    isplitl [H0]
    · iapply (Entails.of_eq (e0 _).symm)
      iexists f0; isplitr; · ipureintro; exact hf0
      iexact H0
    rw [live1]
    iapply (Entails.of_eq (e1 _).symm)
    iexists f; isplitr; swap; (· iexact H1); ipureintro
    refine hf.trans ?_
    rw [hf0, ← hi]; rfl
  | succ n =>
    rw [before_acc] at hf1
    obtain ⟨c1, c2⟩ := cond_next ⟨n + 1, hn⟩ (Nat.succ_ne_zero n)
    have run := body_next d (grid1.coords ⟨n + 1, hn⟩) (rowsAt ⟨n + 1, hn⟩) (hstage1_0 _) (accAt ⟨n + 1, hn⟩) (hstage1_1 _) f0 f1 c1 c2 Set.univ
    generalize hi : grid1.coords ⟨n + 1, hn⟩ = i at *
    iapply (run _)
    isplitl [H0]; · iexact H0
    isplitl [H1]; · iexact H1
    iintro %f %hf ⟨H0, H1⟩
    isplitl [HΦ]; · iexact HΦ
    isplitl [Howes]; · iexact Howes
    isplitl [H0]
    · iapply (Entails.of_eq (e0 _).symm)
      iexists f0; isplitr; · ipureintro; exact hf0
      iexact H0
    rw [live1]
    iapply (Entails.of_eq (e1 _).symm)
    iexists f; isplitr; swap; (· iexact H1); ipureintro
    refine hf.trans ?_
    rw [hf0, hf1, ← hi]; rfl

/-- The accumulator's array is written back whole, after the last point. -/
theorem arr_acc (d : Dev nD) : (dat W b d).arrAt 1 cfg1.N = accOf (tabOf W d) 13 (by decide) := by
  refine Dat.arrAt_eq_of_covers (dat W b d) 1 (accOf (tabOf W d) 13 (by decide)) (by decide +kernel) fun t ht y => ?_
  have h1 := (flush1_1 t).mp ht
  have h2 : t.val < 14 := t.isLt
  obtain rfl : t = ⟨13, by decide⟩ := Fin.ext (by
    show t.val = 13
    omega)
  refine congrArg (accOf (tabOf W d) 13 (by decide)) ?_
  have e0 : win1_1.index (⟨13, by decide⟩ : Fin grid1.N) 0 = 0 := by decide +kernel
  have e1 : win1_1.index (⟨13, by decide⟩ : Fin grid1.N) 1 = 0 := by decide +kernel
  blk_ext
  · show (y 0).val = win1_1.index (⟨13, by decide⟩ : Fin grid1.N) 0 * 2 + (y 0).val
    rw [e0]; omega
  · show (y 1).val = win1_1.index (⟨13, by decide⟩ : Fin grid1.N) 1 * 128 + (y 1).val
    rw [e1]; omega

/-! ## The region -/

/-- No table is prefetched: the pipeline's contents of them. -/
abbrev adm : (p : Fin 1) → (pcfgs (F := F) p).Adm := fun p => (cfgs p).toPCfg_adm

/-- The data of the one pipeline. -/
def pdats : (p : Fin 1) → (d : Dev nD) → Dat τ (Elt F) (HIx 1) ℕ UU ℕ (Pipeline.pin (pcfgs (F := F)) adm p) d
  | ⟨0, _⟩ => fun d => dat W b d

variable (W' : Dev nD → Valuation τ sig (Elt F))

-- the region's fields are stated at the configuration the tables pin, which is the configuration itself only by unfolding
set_option backward.isDefEq.respectTransparency.types false in
/-- The region: entered from every unscoped buffer at `W`, left with the accumulator's array at its final contents. -/
def reg (hout : ∀ d, W' d (Proc.devRef .tc main_v2) = accOf (tabOf W d) 13 (by decide))
    (hne : ∀ d (r : Ref sig .tc), r ≠ main_v2 → W' d (Proc.devRef .tc r) = W d (Proc.devRef .tc r)) (R : Dev nD → sProp 𝕄) :
    Pipeline.RegionSeg (pcfgs (F := F)) adm (pdats W b) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody d := (body_obligation W b d).loose
  hwaits := Pipeline.hwaits_of_owed_zero _ _ _ _ (K (F := F)).L (K (F := F)).lev 0 fun _ _ => rfl
  pre d := iprop(unscopedBufs d (fun r => W d (Proc.devRef .tc r)) ∗ R d
    ∗ ∃ A, ⌜(K (F := F)).WBelow (T d) A b⌝ ∗ owes (T d) (0 : CellTallies nD τ sig (HIx 1)) A)
  post d := iprop(unscopedBufs d (fun r => W' d (Proc.devRef .tc r)) ∗ R d
    ∗ ∃ A, ⌜(K (F := F)).WBelow (T d) A b⌝ ∗ owes (T d) (0 : CellTallies nD τ sig (HIx 1)) A)
  X _ := BI.emp
  Y _ := BI.emp
  Z d := iprop(Pipeline.unscopedRest (Ix := HIx 1) (Name := ℕ) (U := UU) (Lvl := ℕ) spec1 d (fun r => W d (Proc.devRef .tc r)) ∗ R d)
  hentry d := by
    rw [Pipeline.ownSems0_none]
    have hsplit := Pipeline.arrays_of_unscopedBufs (p := 0) (pcfgs (F := F)) adm (pdats W b) launch1.win launch1.arr_whole d
      ((pdats W b 0 d).share_full fun _ => rfl) (fun r => W d (Proc.devRef .tc r)) fun _ => rfl
    iintro ⟨⟨Hub, HR, ⟨%A, %hA, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists A; isplitr; · ipureintro; exact fun p hp => Or.inl (hA p hp)
      iexact HO
    isplitr; · iempintro
    isplitl [Hrest] <;> iassumption
  hin d := by
    rw [show (pdats W b 0 d).Φ 0 = Pipeline.scopedRest (Ix := HIx 1) (Name := ℕ) (U := UU) (Lvl := ℕ) (Val := Elt F) spec1 d from rfl]
    iintro ⟨-, -, Hr⟩; iexact Hr
  hout d := by
    rw [Pipeline.ownSems0_none, show (pdats W b 0 d).Φ (Fin.last _) = Pipeline.scopedRest (Ix := HIx 1) (Name := ℕ) (U := UU) (Lvl := ℕ) (Val := Elt F) spec1 d from rfl]
    iintro Hr
    isplitr; · iempintro
    isplitr; · iempintro
    iexact Hr
  hexit d := by
    have hjoin := Pipeline.unscopedBufs_of_arrays (p := 0) (pcfgs (F := F)) adm (Ix := HIx 1) (Name := ℕ) (U := UU) (Lvl := ℕ) launch1.win launch1.arr_whole d
      (pdats W b) ((pdats W b 0 d).share_full fun _ => rfl) (fun r => W d (Proc.devRef .tc r)) (fun r => W' d (Proc.devRef .tc r))
      ((pdats W b 0 d).arrAt · cfg1.N)
      (fun w => by
        fin_cases w
        · exact ((pdats W b 0 d).arrAt_in 0 rfl _).trans (hne d main_v0 (by decide)).symm
        · exact (arr_acc W b d).trans (hout d).symm)
      (fun r hr => hne d r fun h => hr (h ▸ Finset.mem_image.mpr ⟨1, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%A, %hA, HO⟩; iexists A
    isplitr
    · ipureintro
      intro p hp
      rcases hA hp with h | ⟨w, s, h⟩
      · exact h
      · rw [h]; exact Nat.zero_le _
    iexact HO

end Data

end Cert.Proof

end

end
-- ==== Proof.Host.lean ====
/-
  The host's operations after the two kernels: the list of them, and the result as a function of what the kernels left.
-/
module

public import proofs.«01_k».proof.Proof.Setup
public import Idealize.ShloMosaic.Lib.StableHlo.RunRead
public import Idealize.ShloMosaic.Lib.Pipeline.Frame

@[expose] public section

noncomputable section

namespace Cert.Proof

open Cert.KernelIdeal Cert.KernelIdeal.Gen

open Idealize.ShloMosaic Idealize.ShloMosaic.TcCoe Idealize.ShloMosaic.StableHlo
open Idealize.SL.Sem

variable {F : FTy → Type} [FloatOps F]

/-! ## The operations -/

/-- The search of the greatest of the tiles' maxima. -/
def argmaxOps (arg0 : TRef sig ⟨S32x128, .f32⟩) (φ : fn_argmax.Bufs) : List (HloOp τ sig (Elt F)) := [
    StableHlo.TRef.nullary φ.v0 (iotaInDim S32x128 32 0),
    StableHlo.TRef.nullary φ.cst (constant S_ .f32 0xFF800000#32),
    StableHlo.TRef.nullary φ.c (constantI S_ 32 0#32),
    StableHlo.TRef.quaternary arg0 φ.v0 φ.cst φ.c φ.v1_0 (fun x y u v j => (Host.argReduce reducer_argmax_f32_i32 x y u v reducesTo_S32x128_S128_d0 h_S_ j).1),
    StableHlo.TRef.quaternary arg0 φ.v0 φ.cst φ.c φ.v1_1 (fun x y u v j => (Host.argReduce reducer_argmax_f32_i32 x y u v reducesTo_S32x128_S128_d0 h_S_ j).2)]

/-- The choice of one row's entries. -/
def takeOps (arg0 : TRef sig ⟨S32x128, .f32⟩) (arg1 : TRef sig ⟨S1x128, .i32⟩) (φ : fn_take_along_axis.Bufs) : List (HloOp τ sig (Elt F)) := [
    StableHlo.TRef.nullary φ.c (constantI S_ 32 0#32),
    StableHlo.TRef.unary φ.c φ.v0 (broadcastInDim S1x128 ![] bcast_S_S1x128),
    StableHlo.TRef.binary arg1 φ.v0 φ.v1 (cmpi .slt),
    StableHlo.TRef.nullary φ.c_0 (constantI S_ 32 32#32),
    StableHlo.TRef.unary φ.c_0 φ.v2 (broadcastInDim S1x128 ![] bcast_S_S1x128),
    StableHlo.TRef.binary arg1 φ.v2 φ.v3 addi,
    StableHlo.TRef.ternary φ.v1 φ.v3 arg1 φ.v4 select,
    StableHlo.TRef.reshape φ.v4 φ.v5 (rfl : (.i32 : EltTy) = .i32) shapeCasts_S1x128_S1x128x1,
    StableHlo.TRef.nullary φ.c_1 (constantI S1 32 31#32),
    StableHlo.TRef.nullary φ.c_2 (constantI S_ 32 0#32),
    StableHlo.TRef.unary φ.c_2 φ.v6 (broadcastInDim S1x128x1 ![] bcast_S_S1x128x1),
    StableHlo.TRef.binary φ.v5 φ.v6 φ.v7 (cmpi .sge),
    StableHlo.TRef.unary φ.c_1 φ.v8 (broadcastInDim S1x1x1 ![2] bcast_S1_S1x1x1_2),
    StableHlo.TRef.unary φ.v8 φ.v9 (broadcastInDim S1x128x1 ![0, 1, 2] bcast_S1x1x1_S1x128x1_0_1_2),
    StableHlo.TRef.binary φ.v5 φ.v9 φ.v10 (cmpi .sle),
    StableHlo.TRef.binary φ.v7 φ.v10 φ.v11 andi,
    StableHlo.TRef.nullary φ.c_3 (constantI S_ 1 1#1),
    StableHlo.TRef.binary φ.v11 φ.c_3 φ.v12 (fun x v => Host.reduce IntOp.andi x v reducesTo_S1x128x1_S1x128_d2 h_S_),
    StableHlo.TRef.binary arg0 φ.v5 φ.v13 (fun x i => Host.gather gather_S32x128_S1x128x1_S1x128_n_0_1_1_0_2_11 x i),
    StableHlo.TRef.nullary φ.cst (constant S_ .f32 0x7FC00000#32),
    StableHlo.TRef.unary φ.cst φ.v14 (broadcastInDim S1x128 ![] bcast_S_S1x128),
    StableHlo.TRef.ternary φ.v12 φ.v13 φ.v14 φ.v15 select]

/-- The choice between two vectors. -/
def whereOps (arg0 : TRef sig ⟨S128, .i1⟩) (arg1 arg2 : TRef sig ⟨S128, .f32⟩) (φ : fn_where.Bufs) : List (HloOp τ sig (Elt F)) := [
    StableHlo.TRef.ternary arg0 arg1 arg2 φ.v0 select]

/-- The tiles' maxima and rows, side by side. -/
def planeOps : List (HloOp τ sig (Elt F)) := [
    StableHlo.unary main_v1 main_v3 ((extractStridedSlice S32x1x8x16 ![0, 0, 0, 0] · slices_S32x2x8x16_S32x1x8x16_0_0_0_0) : (⟨S32x2x8x16, .f32⟩ : BufTy).Contents (Elt F) → (⟨S32x1x8x16, .f32⟩ : BufTy).Contents (Elt F)),
    StableHlo.reshape main_v3 main_v4 (rfl : (.f32 : EltTy) = .f32) shapeCasts_S32x1x8x16_S32x8x16,
    StableHlo.reshape main_v4 main_v5 (rfl : (.f32 : EltTy) = .f32) shapeCasts_S32x8x16_S32x128,
    StableHlo.unary main_v1 main_v6 ((extractStridedSlice S32x1x8x16 ![0, 1, 0, 0] · slices_S32x2x8x16_S32x1x8x16_0_1_0_0) : (⟨S32x2x8x16, .f32⟩ : BufTy).Contents (Elt F) → (⟨S32x1x8x16, .f32⟩ : BufTy).Contents (Elt F)),
    StableHlo.reshape main_v6 main_v7 (rfl : (.f32 : EltTy) = .f32) shapeCasts_S32x1x8x16_S32x8x16,
    StableHlo.reshape main_v7 main_v8 (rfl : (.f32 : EltTy) = .f32) shapeCasts_S32x8x16_S32x128]
/-- The best tile as a row of indices. -/
def bestOps : List (HloOp τ sig (Elt F)) := [
    StableHlo.unary main_v9 main_v10 (broadcastInDim S1x128 ![1] bcast_S128_S1x128_1 : (⟨S128, .i32⟩ : BufTy).Contents (Elt F) → (⟨S1x128, .i32⟩ : BufTy).Contents (Elt F))]
/-- Its maximum as a vector, and the row of indices again. -/
def maxOps : List (HloOp τ sig (Elt F)) := [
    StableHlo.reshape main_v11 main_v12 (rfl : (.f32 : EltTy) = .f32) shapeCasts_S1x128_S128,
    StableHlo.unary main_v9 main_v13 (broadcastInDim S1x128 ![1] bcast_S128_S1x128_1 : (⟨S128, .i32⟩ : BufTy).Contents (Elt F) → (⟨S1x128, .i32⟩ : BufTy).Contents (Elt F))]
/-- Its row as a vector. -/
def rowOps : List (HloOp τ sig (Elt F)) := [
    StableHlo.reshape main_v14 main_v15 (rfl : (.f32 : EltTy) = .f32) shapeCasts_S1x128_S128]
/-- The comparison with the TensorCore's part. -/
def cmpOps : List (HloOp τ sig (Elt F)) := [
    StableHlo.unary main_v2 main_v16 ((extractStridedSlice S1x128 ![0, 0] · slices_S2x128_S1x128_0_0) : (⟨S2x128, .f32⟩ : BufTy).Contents (Elt F) → (⟨S1x128, .f32⟩ : BufTy).Contents (Elt F)),
    StableHlo.reshape main_v16 main_v17 (rfl : (.f32 : EltTy) = .f32) shapeCasts_S1x128_S128,
    StableHlo.unary main_v2 main_v18 ((extractStridedSlice S1x128 ![1, 0] · slices_S2x128_S1x128_1_0) : (⟨S2x128, .f32⟩ : BufTy).Contents (Elt F) → (⟨S1x128, .f32⟩ : BufTy).Contents (Elt F)),
    StableHlo.reshape main_v18 main_v19 (rfl : (.f32 : EltTy) = .f32) shapeCasts_S1x128_S128,
    StableHlo.binary main_v17 main_v12 main_v20 (cmpf .ogt : (⟨S128, .f32⟩ : BufTy).Contents (Elt F) → (⟨S128, .f32⟩ : BufTy).Contents (Elt F) → (⟨S128, .i1⟩ : BufTy).Contents (Elt F)),
    StableHlo.binary main_v17 main_v12 main_v21 (cmpf .oeq : (⟨S128, .f32⟩ : BufTy).Contents (Elt F) → (⟨S128, .f32⟩ : BufTy).Contents (Elt F) → (⟨S128, .i1⟩ : BufTy).Contents (Elt F)),
    StableHlo.binary main_v19 main_v15 main_v22 (cmpf .olt : (⟨S128, .f32⟩ : BufTy).Contents (Elt F) → (⟨S128, .f32⟩ : BufTy).Contents (Elt F) → (⟨S128, .i1⟩ : BufTy).Contents (Elt F)),
    StableHlo.binary main_v21 main_v22 main_v23 (andi : (⟨S128, .i1⟩ : BufTy).Contents (Elt F) → (⟨S128, .i1⟩ : BufTy).Contents (Elt F) → (⟨S128, .i1⟩ : BufTy).Contents (Elt F)),
    StableHlo.binary main_v20 main_v23 main_v24 (ori : (⟨S128, .i1⟩ : BufTy).Contents (Elt F) → (⟨S128, .i1⟩ : BufTy).Contents (Elt F) → (⟨S128, .i1⟩ : BufTy).Contents (Elt F))]
/-- The result as integers. -/
def intOps : List (HloOp τ sig (Elt F)) := [
    StableHlo.unary main_v25 main_v26 (fptosi 32 : (⟨S128, .f32⟩ : BufTy).Contents (Elt F) → (⟨S128, .i32⟩ : BufTy).Contents (Elt F))]

/-- The first part: the best tile of each column. -/
def part1 : List (HloOp τ sig (Elt F)) := planeOps ++ (argmaxOps (.of main_v5) main_call0 ++ bestOps)
/-- The second: its maximum. -/
def part2 : List (HloOp τ sig (Elt F)) := takeOps (.of main_v5) (.of main_v10) main_call1 ++ maxOps
/-- The third: its row. -/
def part3 : List (HloOp τ sig (Elt F)) := takeOps (.of main_v8) (.of main_v13) main_call2 ++ rowOps
/-- The last: the better of it and the TensorCore's. -/
def part4 : List (HloOp τ sig (Elt F)) := cmpOps ++ (whereOps (.of main_v24) (.of main_v19) (.of main_v15) main_call3 ++ intOps)
/-- All of them. -/
def sufOps : List (HloOp τ sig (Elt F)) := part1 ++ (part2 ++ (part3 ++ part4))

/-- The operation before the kernels: the transpose. -/
def preOp : HloOp τ sig (Elt F) := StableHlo.unary main_arg0 main_v0 ((transpose S100000x128 [1, 0] · transposes_S128x100000_S100000x128_1_0) : (⟨S128x100000, .f32⟩ : BufTy).Contents (Elt F) → (⟨S100000x128, .f32⟩ : BufTy).Contents (Elt F))

theorem argmax_eq (arg0 : TRef sig ⟨S32x128, .f32⟩) (φ : fn_argmax.Bufs) : fn_argmax.body (F := F) arg0 φ = seq (argmaxOps arg0 φ) := rfl
theorem take_eq (arg0 : TRef sig ⟨S32x128, .f32⟩) (arg1 : TRef sig ⟨S1x128, .i32⟩) (φ : fn_take_along_axis.Bufs) :
    fn_take_along_axis.body (F := F) arg0 arg1 φ = seq (takeOps arg0 arg1 φ) := rfl
theorem where_eq (arg0 : TRef sig ⟨S128, .i1⟩) (arg1 arg2 : TRef sig ⟨S128, .f32⟩) (φ : fn_where.Bufs) :
    fn_where.body (F := F) arg0 arg1 arg2 φ = seq (whereOps arg0 arg1 arg2 φ) := rfl

/-- The program after the SparseCore call: the TensorCore's kernel and the host's operations. -/
def kernelTail : Prog (TpuEff nD τ sig (Elt F) (SparseCore.Sig (Pipeline.Sig Λ₀ (Fin 1) fun p => (pcfgs (F := F) p).Adm) 1) .tc) PUnit :=
  Prog.lift (.customCall (SparseCore.inner (Pipeline.entry 0)) ()) >>= fun _ => seq sufOps

/-- The program: the transpose, the two kernels, and the host's operations. -/
theorem main_eq (d : Dev nD) : main (F := F) d = seq [preOp] >>= fun _ => sc.run d 0 >>= fun _ => kernelTail := by
  simp only [main, kernelTail, sufOps, part1, part2, part3, part4, seq_append, argmax_eq, take_eq, where_eq, planeOps, bestOps, maxOps, rowOps, cmpOps, intOps, seq,
    bind_assoc, pure_bind, preOp]

theorem pre_bufs : ∀ op ∈ [preOp (F := F)], op.bufs ⊆ Pipeline.ucRefs τ sig := by
  intro op hop
  rw [List.mem_singleton.mp hop]
  exact Pipeline.sub_ucRefs _ (by simp [preOp])
theorem pre_fresh : ∀ op ∈ [preOp (F := F)], op.fresh = ∅ := by
  intro op hop
  rw [List.mem_singleton.mp hop]
  rfl

/-! ## What they touch -/

theorem suf_bufs : ∀ op ∈ (sufOps (F := F)), op.bufs ⊆ Pipeline.ucRefs τ sig := by
  intro op hop
  refine Pipeline.sub_ucRefs op ?_
  revert op
  rw [← List.forall_iff_forall_mem]
  simp [sufOps, part1, part2, part3, part4, argmaxOps, takeOps, whereOps, planeOps, bestOps, maxOps, rowOps, cmpOps, intOps]

theorem suf_fresh : ∀ op ∈ (sufOps (F := F)), op.fresh = ∅ := by
  intro op hop
  revert op
  rw [← List.forall_iff_forall_mem]
  simp [sufOps, part1, part2, part3, part4, argmaxOps, takeOps, whereOps, planeOps, bestOps, maxOps, rowOps, cmpOps, intOps]
  and_intros <;> rfl

/-! ## What they compute -/

/-- The tiles' maxima, a row per tile. -/
def maxPlane (O : FVec F S32x2x8x16 .f32) : FVec F S32x128 .f32 :=
  shapeCast S32x128 (shapeCast S32x8x16 (extractStridedSlice S32x1x8x16 ![0, 0, 0, 0] O slices_S32x2x8x16_S32x1x8x16_0_0_0_0) shapeCasts_S32x1x8x16_S32x8x16) shapeCasts_S32x8x16_S32x128
/-- The tiles' rows, a row per tile. -/
def rowPlane (O : FVec F S32x2x8x16 .f32) : FVec F S32x128 .f32 :=
  shapeCast S32x128 (shapeCast S32x8x16 (extractStridedSlice S32x1x8x16 ![0, 1, 0, 0] O slices_S32x2x8x16_S32x1x8x16_0_1_0_0) shapeCasts_S32x1x8x16_S32x8x16) shapeCasts_S32x8x16_S32x128
/-- The tile whose maximum is greatest, the first of them. -/
def bestTile (X : FVec F S32x128 .f32) : IVec S128 32 := fun j =>
  (Host.argReduce reducer_argmax_f32_i32 X (iotaInDim S32x128 32 0) (constant S_ .f32 0xFF800000#32) (constantI S_ 32 0#32) reducesTo_S32x128_S128_d0 h_S_ j).2
/-- A vector of indices as a row. -/
def asRow (v : IVec S128 32) : IVec S1x128 32 := broadcastInDim S1x128 ![1] bcast_S128_S1x128_1 v
/-- The indices counted from the front. -/
def wrapped (i : IVec S1x128 32) : IVec S1x128x1 32 :=
  shapeCast S1x128x1 (select (cmpi .slt i (broadcastInDim S1x128 ![] bcast_S_S1x128 (constantI S_ 32 0#32)))
    (addi i (broadcastInDim S1x128 ![] bcast_S_S1x128 (constantI S_ 32 32#32))) i) shapeCasts_S1x128_S1x128x1
/-- Which of them are rows of the table. -/
def inside (w : IVec S1x128x1 32) : IVec S1x128 1 :=
  Host.reduce IntOp.andi (andi (cmpi .sge w (broadcastInDim S1x128x1 ![] bcast_S_S1x128x1 (constantI S_ 32 0#32)))
    (cmpi .sle w (broadcastInDim S1x128x1 ![0, 1, 2] bcast_S1x1x1_S1x128x1_0_1_2 (broadcastInDim S1x1x1 ![2] bcast_S1_S1x1x1_2 (constantI S1 32 31#32)))))
    (constantI S_ 1 1#1) reducesTo_S1x128x1_S1x128_d2 h_S_
/-- In each column, the entry at that column's index. -/
def takeAlong (X : FVec F S32x128 .f32) (i : IVec S1x128 32) : FVec F S128 .f32 :=
  shapeCast S128 (select (inside (wrapped i)) (Host.gather gather_S32x128_S1x128x1_S1x128_n_0_1_1_0_2_11 X (wrapped i))
    (broadcastInDim S1x128 ![] bcast_S_S1x128 (constant S_ .f32 0x7FC00000#32))) shapeCasts_S1x128_S128
/-- One row of the TensorCore's results. -/
def accRow0 (Y : FVec F S2x128 .f32) : FVec F S128 .f32 := shapeCast S128 (extractStridedSlice S1x128 ![0, 0] Y slices_S2x128_S1x128_0_0) shapeCasts_S1x128_S128
/-- The other. -/
def accRow1 (Y : FVec F S2x128 .f32) : FVec F S128 .f32 := shapeCast S128 (extractStridedSlice S1x128 ![1, 0] Y slices_S2x128_S1x128_1_0) shapeCasts_S1x128_S128
/-- The row of the greater maximum, the lesser row where they are equal. -/
def better (Y : FVec F S2x128 .f32) (mx rw : FVec F S128 .f32) : IVec S128 32 :=
  fptosi 32 (select (ori (cmpf .ogt (accRow0 Y) mx) (andi (cmpf .oeq (accRow0 Y) mx) (cmpf .olt (accRow1 Y) rw))) (accRow1 Y) rw)

/-- The program's result from what the two kernels leave. -/
def hostOut (O : FVec F S32x2x8x16 .f32) (Y : FVec F S2x128 .f32) : IVec S128 32 :=
  better Y (takeAlong (maxPlane O) (asRow (bestTile (maxPlane O)))) (takeAlong (rowPlane O) (asRow (bestTile (maxPlane O))))

section Reads

variable (V : Valuation τ sig (Elt F))

theorem part1_v5 : after part1 V (Proc.devRef .tc main_v5) = maxPlane (V (Proc.devRef .tc main_v1)) := by
  after_reads_simp
  rfl
theorem part1_v8 : after part1 V (Proc.devRef .tc main_v8) = rowPlane (V (Proc.devRef .tc main_v1)) := by
  after_reads_simp
  rfl
theorem part1_v9 : after part1 V (Proc.devRef .tc main_v9) = bestTile (maxPlane (V (Proc.devRef .tc main_v1))) := by
  after_reads_simp
  rfl
theorem part1_v10 : after part1 V (Proc.devRef .tc main_v10) = asRow (bestTile (maxPlane (V (Proc.devRef .tc main_v1)))) := by
  after_reads_simp
  rfl
theorem part1_v2 : after part1 V (Proc.devRef .tc main_v2) = V (Proc.devRef .tc main_v2) := by
  after_reads_simp
theorem part2_v12 : after part2 V (Proc.devRef .tc main_v12) = takeAlong (V (Proc.devRef .tc main_v5)) (V (Proc.devRef .tc main_v10)) := by
  after_reads_simp
  rfl
theorem part2_v13 : after part2 V (Proc.devRef .tc main_v13) = asRow (V (Proc.devRef .tc main_v9)) := by
  after_reads_simp
  rfl
theorem part2_v8 : after part2 V (Proc.devRef .tc main_v8) = V (Proc.devRef .tc main_v8) := by
  after_reads_simp
theorem part2_v2 : after part2 V (Proc.devRef .tc main_v2) = V (Proc.devRef .tc main_v2) := by
  after_reads_simp
theorem part3_v15 : after part3 V (Proc.devRef .tc main_v15) = takeAlong (V (Proc.devRef .tc main_v8)) (V (Proc.devRef .tc main_v13)) := by
  after_reads_simp
  rfl
theorem part3_v12 : after part3 V (Proc.devRef .tc main_v12) = V (Proc.devRef .tc main_v12) := by
  after_reads_simp
theorem part3_v2 : after part3 V (Proc.devRef .tc main_v2) = V (Proc.devRef .tc main_v2) := by
  after_reads_simp
theorem part4_v26 : after part4 V (Proc.devRef .tc main_v26) = better (V (Proc.devRef .tc main_v2)) (V (Proc.devRef .tc main_v12)) (V (Proc.devRef .tc main_v15)) := by
  after_reads_simp
  rfl

/-- The argument is untouched. -/
theorem suf_arg0 : after sufOps V (Proc.devRef .tc main_arg0) = V (Proc.devRef .tc main_arg0) := by
  after_reads_simp

/-- The result. -/
theorem suf_v26 : after sufOps V (Proc.devRef .tc main_v26) = hostOut (V (Proc.devRef .tc main_v1)) (V (Proc.devRef .tc main_v2)) := by
  unfold sufOps
  rw [after_append, after_append, after_append, part4_v26, part3_v15, part3_v12, part3_v2, part2_v13, part2_v12, part2_v8, part2_v2,
    part1_v5, part1_v8, part1_v9, part1_v10, part1_v2]
  rfl

end Reads

end Cert.Proof

end

end
-- ==== Proof.Launch.lean ====
/-
  The whole program's run, over any floats: the transpose, the SparseCore call, the TensorCore's pipeline and the host's
  operations, one after the other, from the launch's memory to the result as a function of the argument.
-/
module

public import proofs.«01_k».proof.Proof.Tile
public import proofs.«01_k».proof.Proof.Region
public import proofs.«01_k».proof.Proof.Host
public import Idealize.ShloMosaic.Lib.StableHlo.RunLoop
public import Idealize.ShloMosaic.Lib.ValueLayout

@[expose] public section

noncomputable section

namespace Cert.Proof

open Cert.KernelIdeal Cert.KernelIdeal.Gen

open Idealize.ShloMosaic Idealize.ShloMosaic.Tactic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3 ix4 eq_ix1 eq_ix2 eq_ix3 transpose_ix2_apply)

variable {F : FTy → Type} [FloatOps F]

local notation "𝕄" => MT nD τ sig (HIx 1) (Elt F) ℕ UU ℕ

/-! ## The ghost state -/

/-- The pipeline's rounds in the whole ghost state. -/
abbrev EPU : Emb UP (UP × Counters) := Emb.inl
/-- The same in the resources. -/
abbrev EP : Emb UP 𝕄 := (EPU).trans (embR : Emb (UP × Counters) 𝕄)

/-- The launch's ghost state: the calls' rounds and the pipeline's, each at its start. -/
def u₀ : UU := (initOf (K (F := F)).hsCells (K (F := F)).hsToks,
  (initOf (Pipeline.cells (nD := nD) (τ := τ) (Pipeline.pin (pcfgs (F := F)) adm) cellOf_inj) (Pipeline.launchToks (nD := nD) (τ := τ) (Pipeline.pin (pcfgs (F := F)) adm) cellOf_inj), 1))

/-- What a TensorCore is dealt of it: its pipeline's. -/
def G (d : Dev nD) : sProp 𝕄 :=
  iprop(Pipeline.cellsGhost (Pipeline.pin (pcfgs (F := F)) adm) EP 0 d ∗ Pipeline.toksInit (Pipeline.pin (pcfgs (F := F)) adm) EP 0 d)

variable (m : (ℓ : Loc nD τ sig) → Buf (Elt F) ℓ) (ρ : Dev nD → PrngReg)

omit [FloatOps F] in
theorem emp_all {I : Type} (s : Finset I) : (bigSep s fun _ => iprop(emp)) = (iprop(emp) : sProp 𝕄) := bigSep_emp_const s

theorem hu₀ : (ownU (u₀ (F := F)) : sProp 𝕄)
    ⊢ |={Set.univ}=> iprop(BI.own ((embL : Emb UH 𝕄) (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀ G
  iintro Hu
  ihave H := (ownU_pair _ _) $$ Hu
  icases H with ⟨HH, HR⟩
  ihave HR' := (Pipeline.fund_ghost (Pipeline.pin (pcfgs (F := F)) adm) (EP (F := F)) cellOf_inj) $$ [HR]
  · iexact HR
  imod HR' with ⟨Hc, Ht⟩
  imodintro
  isplitl [HH]; · iexact HH
  isplitl [Hc Ht]
  · rw [bigSep_sep']
    isplitl [Hc]
    · iapply (Entails.of_eq (bigSep_congr (s := Finset.univ) fun d _ => bigSep_univ_of_subsingleton (0 : Fin 1))) $$ Hc
    · iapply (Entails.of_eq (bigSep_congr (s := Finset.univ) fun d _ => bigSep_univ_of_subsingleton (0 : Fin 1))) $$ Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emp_all]
  iempintro

/-! ## The arrays along the program -/

/-- As launched. -/
def V0 (d : Dev nD) : Valuation τ sig (Elt F) := fun b => m (d, b)
/-- After the transpose. -/
def V1 (d : Dev nD) : Valuation τ sig (Elt F) := StableHlo.after [preOp] (V0 m d)
open Classical in
/-- After the SparseCore call. -/
def V2 (d : Dev nD) : Valuation τ sig (Elt F) := Function.update (V1 m d) (Proc.devRef .tc main_v1) (res m d)
open Classical in
/-- After the pipeline. -/
def V3 (d : Dev nD) : Valuation τ sig (Elt F) := Function.update (V2 m d) (Proc.devRef .tc main_v2) (accOf (tbl m d) 13 (by decide))

theorem V1_v0 (d : Dev nD) : V1 m d (Proc.devRef .tc main_v0) = tbl m d := by
  unfold V1 preOp
  after_reads_simp
  funext i
  exact (congrArg _ (eq_ix2 i)).trans (transpose_ix2_apply _ _ (i 0) (i 1))
theorem V1_of_ne (d : Dev nD) (r : Ref sig .tc) (h : r ∉ [main_v0]) : V1 m d (Proc.devRef .tc r) = m (d, Proc.devRef .tc r) :=
  StableHlo.after_unwritten [main_v0] rfl h (V0 m d)
theorem V2_v1 (d : Dev nD) : V2 m d (Proc.devRef .tc main_v1) = res m d := Function.update_self _ _ _
theorem V2_of_ne (d : Dev nD) (r : Ref sig .tc) (h : r ≠ main_v1) : V2 m d (Proc.devRef .tc r) = V1 m d (Proc.devRef .tc r) :=
  Function.update_of_ne (StableHlo.devRef_ne_of_ne h) _ _
theorem V3_v2 (d : Dev nD) : V3 m d (Proc.devRef .tc main_v2) = accOf (tbl m d) 13 (by decide) := Function.update_self _ _ _
theorem V3_of_ne (d : Dev nD) (r : Ref sig .tc) (h : r ≠ main_v2) : V3 m d (Proc.devRef .tc r) = V2 m d (Proc.devRef .tc r) :=
  Function.update_of_ne (StableHlo.devRef_ne_of_ne h) _ _
theorem V2_tab (d : Dev nD) : tabOf (V2 m) d = tbl m d := (V2_of_ne m d main_v0 (by decide)).trans (V1_v0 m d)

/-- The result as a function of the argument. -/
def outR (A : FVec F S128x100000 .f32) : IVec S128 32 := hostOut (outOf (transp A)) (accOf (transp A) 13 (by decide))

/-- Where the result is. -/
abbrev rLoc (d : Dev nD) : Loc nD τ sig := (SparseCore.T d).loc main_v26

theorem V4_arg0 (d : Dev nD) : StableHlo.after sufOps (V3 m d) (Proc.devRef .tc main_arg0) = m (aLoc d) := by
  rw [suf_arg0, V3_of_ne m d _ (by decide), V2_of_ne m d _ (by decide), V1_of_ne m d _ (by decide)]
theorem V4_v26 (d : Dev nD) : StableHlo.after sufOps (V3 m d) (Proc.devRef .tc main_v26) = outR (m (aLoc d)) := by
  rw [suf_v26, V3_v2, V3_of_ne m d _ (by decide), V2_v1]
  rfl

/-- The launch's arrays. -/
theorem at_start (d : Dev nD) : (unscopedBufs d (fun b => m ((SparseCore.T d).loc b)) : sProp 𝕄) = StableHlo.held (T d) (Pipeline.ucRefs τ sig) (V0 m d) :=
  Pipeline.unscopedBufs_held d (V0 m d)

/-! ## The call's arrays out of all and back -/

/-- The table and the results. -/
abbrev callRefs : Finset (DevRef τ sig) := {Proc.devRef .tc main_v0, Proc.devRef .tc main_v1}
theorem callRefs_sub : callRefs ⊆ Pipeline.ucRefs τ sig := by
  intro b hb
  rcases Finset.mem_insert.mp hb with rfl | hb
  · exact StableHlo.devRef_mem_ucRefs _ rfl
  · rw [Finset.mem_singleton.mp hb]; exact StableHlo.devRef_mem_ucRefs _ rfl

theorem held_call (d : Dev nD) (W : Valuation τ sig (Elt F)) :
    (StableHlo.held (T d) callRefs W : sProp 𝕄) = iprop((xLoc d ↦{fullShare} W (Proc.devRef .tc main_v0)) ∗ oLoc d ↦{fullShare} W (Proc.devRef .tc main_v1)) := by
  unfold StableHlo.held callRefs
  rw [SparseCore.bigSep_insert' (by decide), bigSep_singleton]

theorem st0_eq (d : Dev nD) : (bigSep Finset.univ fun c : Fin ((K (F := F)).nCore 0) => (P m).st 0 d c) = iprop((xLoc d ↦{fullShare} tbl m d) ∗ oLoc d ↦{fullShare} m (oLoc d)) := by
  rw [all_cores]
  exact bigSep_cores (F := F) fun c => stP m d c (m (oLoc d))
theorem dn0_eq (d : Dev nD) : (bigSep Finset.univ fun c : Fin ((K (F := F)).nCore 0) => (P m).dn 0 d c) = iprop((xLoc d ↦{fullShare} tbl m d) ∗ oLoc d ↦{fullShare} res m d) := by
  rw [all_cores]
  exact bigSep_cores (F := F) fun c => stP m d c (res m d)

/-- Before the call the two arrays are its payloads. -/
theorem before_call (d : Dev nD) : (StableHlo.held (T d) (Pipeline.ucRefs τ sig) (V1 m d) : sProp 𝕄)
    = iprop((bigSep Finset.univ fun c : Fin ((K (F := F)).nCore 0) => (P m).st 0 d c) ∗ StableHlo.held (T d) (Pipeline.ucRefs τ sig \ callRefs) (V1 m d)) := by
  rw [StableHlo.held_sub_split (T d) callRefs_sub, held_call, st0_eq, V1_v0, V1_of_ne m d main_v1 (by decide)]

/-- After it they are its results. -/
theorem after_call (d : Dev nD) : (StableHlo.held (T d) (Pipeline.ucRefs τ sig) (V2 m d) : sProp 𝕄)
    = iprop((bigSep Finset.univ fun c : Fin ((K (F := F)).nCore 0) => (P m).dn 0 d c) ∗ StableHlo.held (T d) (Pipeline.ucRefs τ sig \ callRefs) (V1 m d)) := by
  rw [StableHlo.held_sub_split (T d) callRefs_sub, held_call, dn0_eq, V2_v1, V2_of_ne m d main_v0 (by decide), V1_v0]
  refine congrArg (fun x => iprop(_ ∗ x)) (StableHlo.held_congr (T d) fun b hb => ?_)
  refine Function.update_of_ne (fun h => (Finset.mem_sdiff.mp hb).2 ?_) _ _
  rw [h]
  exact Finset.mem_insert_of_mem (Finset.mem_singleton_self _)

/-- The argument and the result. -/
abbrev endRefs : Finset (DevRef τ sig) := {Proc.devRef .tc main_arg0, Proc.devRef .tc main_v26}
theorem endRefs_sub : endRefs ⊆ Pipeline.ucRefs τ sig := by
  intro b hb
  rcases Finset.mem_insert.mp hb with rfl | hb
  · exact StableHlo.devRef_mem_ucRefs _ rfl
  · rw [Finset.mem_singleton.mp hb]; exact StableHlo.devRef_mem_ucRefs _ rfl

/-- What a device ends with: its argument as launched, its result the function of it. -/
abbrev FIN (d : Dev nD) : sProp 𝕄 := iprop((aLoc d ↦{fullShare} m (aLoc d)) ∗ rLoc d ↦{fullShare} outR (m (aLoc d)))

theorem at_end (d : Dev nD) : (StableHlo.held (T d) (Pipeline.ucRefs τ sig) (StableHlo.after sufOps (V3 m d)) : sProp 𝕄)
    = iprop(FIN m d ∗ StableHlo.held (T d) (Pipeline.ucRefs τ sig \ endRefs) (StableHlo.after sufOps (V3 m d))) := by
  rw [StableHlo.held_sub_split (T d) endRefs_sub]
  refine congrArg (fun x => iprop(x ∗ _)) ?_
  unfold StableHlo.held endRefs
  rw [SparseCore.bigSep_insert' (by decide), bigSep_singleton, V4_arg0, V4_v26]

/-! ## The program on a TensorCore -/

/-- The last level a thread waits at before its last call's end. -/
abbrev lastB : ℕ := 8

/-- The region, between the call and the host's operations. -/
abbrev region : Pipeline.RegionSeg (pcfgs (F := F)) adm (pdats (V2 m) lastB) (none : HIx 1) defs₀ 𝒱₀ (K (F := F)).L (K (F := F)).lev 0 :=
  reg (V2 m) lastB (V3 m) (fun d => by rw [V2_tab]; exact V3_v2 m d) (fun d r h => V3_of_ne m d r h) fun _ => iprop(emp)

theorem region_pre (d : Dev nD) : (region m).pre d = (iprop(StableHlo.held (T d) (Pipeline.ucRefs τ sig) (V2 m d)
    ∗ ∃ A, ⌜(K (F := F)).WBelow (T d) A lastB⌝ ∗ owes (T d) (0 : CellTallies nD τ sig (HIx 1)) A) : sProp 𝕄) := by
  rw [← Pipeline.unscopedBufs_held d (V2 m d)]
  exact congrArg (fun x => iprop(_ ∗ x)) (emp_sep_eq _)
theorem region_post (d : Dev nD) : (region m).post d = (iprop(StableHlo.held (T d) (Pipeline.ucRefs τ sig) (V3 m d)
    ∗ ∃ A, ⌜(K (F := F)).WBelow (T d) A lastB⌝ ∗ owes (T d) (0 : CellTallies nD τ sig (HIx 1)) A) : sProp 𝕄) := by
  rw [← Pipeline.unscopedBufs_held d (V3 m d)]
  exact congrArg (fun x => iprop(_ ∗ x)) (emp_sep_eq _)

/-- The host's operations after the kernels. -/
theorem wp_host (d : Dev nD) {Φ : PUnit → sProp 𝕄} :
    iprop(boundary (T d) ∗ StableHlo.held (T d) (Pipeline.ucRefs τ sig) (V3 m d) ∗ ((boundary (T d) ∗ FIN m d) -∗ Φ ⟨⟩))
      ⊢ wp frame (wpE ((K (F := F)).defs (D (F := F))) 𝒱 (SparseCore.T d) none) Set.univ (StableHlo.seq sufOps) Φ := by
  have hend := at_end m d
  have hb := suf_bufs (F := F)
  have hf := suf_fresh (F := F)
  revert hend hb hf
  generalize sufOps (F := F) = ops
  intro hend hb hf
  iintro ⟨Hb, Hub, Hk⟩
  rw [← bind_pure (StableHlo.seq ops)]
  iapply (StableHlo.wp_seq (defs := (K (F := F)).defs (D (F := F))) 𝒱 none Set.univ d (Pipeline.ucRefs τ sig) pure
    ops hb hf (V3 m d)) $$ [Hb Hub]
  · isplitl [Hb]; · iexact Hb
    iexact Hub
  iintro ⟨Hb, Hub⟩
  ihave Hub := (Entails.of_eq hend) $$ Hub
  icases Hub with ⟨Hfin, -⟩
  rw [wp_pure]
  imodintro
  iapply Hk
  isplitl [Hb] <;> iassumption

theorem hmain [∀ e, Nonempty (Elt F e)] (κ : GSem nD τ sig → ℕ) (d : Dev nD) :
    iprop((K (F := F)).ctx (embL : Emb UH 𝕄) (P m) κ ∗ (K (F := F)).tcSt (embL : Emb UH 𝕄) d 0 ∗ (K (F := F)).tcRes m ρ d ∗ G d)
      ⊢ wp frame (wpE ((K (F := F)).defs (D (F := F))) 𝒱 (SparseCore.T d) none) Set.univ (main d)
          fun _ => iprop((K (F := F)).tcSt (embL : Emb UH 𝕄) d 1 ∗ FIN m d ∗ (K (F := F)).tcEnd d) := by
  unfold SparseCore.Cfg.tcRes SparseCore.Cfg.tcEnd G
  rw [main_eq, at_start]
  iintro ⟨#Hctx, Hst, ⟨Hb, Hub, Hts, -⟩, Hg, Ht⟩
  iapply (StableHlo.wp_seq (defs := (K (F := F)).defs (D (F := F))) 𝒱 none Set.univ d (Pipeline.ucRefs τ sig) (fun _ => sc.run d 0 >>= fun _ => kernelTail)
    [preOp] pre_bufs pre_fresh (V0 m d)) $$ [Hb Hub]
  · isplitl [Hb]; · iexact Hb
    iexact Hub
  iintro ⟨Hb, Hub⟩
  ihave Hub := (Entails.of_eq (show (StableHlo.held (SparseCore.T d) (Pipeline.ucRefs τ sig) (StableHlo.after [preOp] (V0 m d)) : sProp 𝕄) = _ from before_call m d)) $$ Hub
  icases Hub with ⟨Hpay, Hrest⟩
  rw [wp_bind]
  iapply ((K (F := F)).wp_run (D (F := F)) 𝒱 (EH := embL) (P := P m) κ d 0) $$ [-]
  isplitr; · iexact Hctx
  isplitl [Hst]; · iexact Hst
  isplitl [Hpay]; · iexact Hpay
  iintro ⟨Hst, Hdn⟩
  ihave Hub := (Entails.of_eq (after_call m d).symm) $$ [Hdn Hrest]
  · isplitl [Hdn]; · iexact Hdn
    iexact Hrest
  unfold kernelTail
  rw [wp_bind]
  iapply ((K (F := F)).wp_liftProg (D (F := F)) 𝒱 (T d) Set.univ none (.op (.customCall (Pipeline.entry 0) ()) .ret) _)
  unfold SparseCore.Cfg.tcSt
  rw [show ((0 : Fin 1).val + 1) = 1 from rfl, (K (F := F)).Otc_end d (le_refl 1)]
  icases Hst with ⟨HO, Hst⟩
  ihave Hlev := (SparseCore.Cfg.ctx_levAts κ) $$ Hctx
  iapply (Pipeline.RegionSeg.wp (pcfgs (F := F)) adm (pdats (V2 m) lastB) (none : HIx 1) cellOf_inj (EP (F := F)) defs₀ 𝒱₀ (K (F := F)).L (K (F := F)).lev
    (region m) d none (fun u hu => nomatch hu) .ret _) $$ [-]
  isplitl [Hst Hts]
  · iintro ⟨Hb, Hpost⟩
    ihave Hpost := (Entails.of_eq (region_post m d)) $$ Hpost
    icases Hpost with ⟨Hub, HO⟩
    rw [wp_ret]
    imodintro
    iapply (wp_host m d) $$ [-]
    isplitl [Hb]; · iexact Hb
    isplitl [Hub]; · iexact Hub
    iintro ⟨Hb, Hfin⟩
    isplitl [HO Hst]
    · isplitl [HO] <;> iassumption
    isplitl [Hfin]; · iexact Hfin
    isplitl [Hb] <;> iassumption
  isplitl [Hb]; · iexact Hb
  isplitl [Hub HO]
  · iapply (Entails.of_eq (region_pre m d).symm)
    isplitl [Hub] <;> iassumption
  isplitl [Hlev]; · iexact Hlev
  isplitl [Hg]; · iexact Hg
  iexact Ht

/-! ## The end -/

/-- What is read off a device at the end. -/
def fq (d : Dev nD) (s' : Phys nD τ sig (Elt F)) : Prop := s'.mem.mem (aLoc d) = m (aLoc d) ∧ s'.mem.mem (rLoc d) = outR (m (aLoc d))

/-- The two arrays held are the two arrays in memory. -/
theorem agree_end (d : Dev nD) (s' : Phys nD τ sig (Elt F)) (a : Buf (Elt F) (aLoc d)) (v : Buf (Elt F) (rLoc d)) :
    iprop(((aLoc d ↦{fullShare} a) ∗ rLoc d ↦{fullShare} v) ∗ SI s') ⊢ (⌜s'.mem.mem (aLoc d) = a ∧ s'.mem.mem (rLoc d) = v⌝ : sProp 𝕄) := by
  iintro ⟨⟨Ha, Hr⟩, HSI⟩
  ihave H := (persistent_entails_right (SI_pointsTo_agree (st := s') (ℓ := aLoc d) (I := Finset.univ) (q := fullShare) (f := a))) $$ [HSI Ha]
  · isplitl [HSI] <;> iassumption
  icases H with ⟨%h1, HSI, -⟩
  ihave H := (SI_pointsTo_agree (st := s') (ℓ := rLoc d) (I := Finset.univ) (q := fullShare) (f := v)) $$ [HSI Hr]
  · isplitl [HSI] <;> iassumption
  icases H with %h2
  ipureintro; exact ⟨funext fun i => h1 i (Finset.mem_univ i), funext fun i => h2 i (Finset.mem_univ i)⟩

theorem hfin (d : Dev nD) (s' : Phys nD τ sig (Elt F)) : iprop(FIN m d ∗ SI s') ⊢ (⌜fq m d s'⌝ : sProp 𝕄) :=
  agree_end d s' (m (aLoc d)) (outR (m (aLoc d)))

/-- The program's end: every argument unchanged, every result the function of its argument, every semaphore at zero. -/
def QC : PUnit × MemSt nD τ sig (Elt F) → Prop := fun r =>
  (∀ c : Dev nD, r.2.mem (aLoc c) = m (aLoc c) ∧ r.2.mem (rLoc c) = outR (m (aLoc c))) ∧ r.2.sem = fun _ => 0

set_option maxRecDepth 16384 in
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := embL) (P := P m) (A := ∅) facts v₀
    (fun q hq => match q with | 0 => nomatch hq)
    (fun q _ => match q with | 0 => tileObl m facts)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof

end

end
-- ==== Proof.Ref.lean ====
/-
  The reference: five host operations, the last of them the index of the first greatest entry of each row.
-/
module

public import proofs.«01_k».proof.Defs
public import proofs.«01_k».proof.Proof.Gen.ReferenceIdeal
public import Idealize.ShloMosaic.Lib.StableHlo.RunRead
public import Idealize.ShloMosaic.Lib.StableHlo.RunHlo
public import Idealize.ShloMosaic.Lib.Quiescent

@[expose] public section

noncomputable section

namespace Cert.Proof

open Cert.ReferenceIdeal Cert.ReferenceIdeal.Gen

open Idealize.ShloMosaic Idealize.ShloMosaic.TcCoe Idealize.ShloMosaic.StableHlo
open Idealize.SL.Sem

variable {F : FTy → Type} [FloatOps F]

/-- The reference's operations. -/
def refOps : List (HloOp τ sig (Elt F)) := [
    TRef.nullary main_call0.v0 (iotaInDim S128x100000 32 1),
    TRef.nullary main_call0.cst (constant S_ .f32 0xFF800000#32),
    TRef.nullary main_call0.c (constantI S_ 32 0#32),
    TRef.quaternary (.of main_arg0) main_call0.v0 main_call0.cst main_call0.c main_call0.v1_0
      (fun x y u v j => (Host.argReduce reducer_argmax_f32_i32 x y u v reducesTo_S128x100000_S128_d1 h_S_ j).1),
    TRef.quaternary (.of main_arg0) main_call0.v0 main_call0.cst main_call0.c main_call0.v1_1
      (fun x y u v j => (Host.argReduce reducer_argmax_f32_i32 x y u v reducesTo_S128x100000_S128_d1 h_S_ j).2)]

/-- The index of the first greatest entry of each row. -/
def refOut (A : FVec F S128x100000 .f32) : IVec S128 32 := fun j =>
  (Host.argReduce reducer_argmax_f32_i32 A (iotaInDim S128x100000 32 1) (constant S_ .f32 0xFF800000#32) (constantI S_ 32 0#32)
    reducesTo_S128x100000_S128_d1 h_S_ j).2

theorem ref_main (d : Dev nD) : main (F := F) d = seq refOps := by
  simp only [main, fn_argmax.body, refOps, seq, bind_assoc, pure_bind]

theorem ref_v0 (V : Valuation τ sig (Elt F)) : after refOps V (Proc.devRef .tc main_v0) = refOut (V (Proc.devRef .tc main_arg0)) := by
  after_reads_simp
  rfl
theorem ref_arg0 (V : Valuation τ sig (Elt F)) : after refOps V (Proc.devRef .tc main_arg0) = V (Proc.devRef .tc main_arg0) := by
  after_reads_simp

/-- The reference's run. -/
theorem ref_run (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_v0) = refOut (m ((c.tc : Thread nD τ).loc main_arg0)) :=
  (θ_run Cert.ReferenceIdeal.defs _ _).mono
    (fun _ h c => ⟨(h c main_arg0).trans (ref_arg0 (launchContents m c)), (h c main_v0).trans (ref_v0 (launchContents m c))⟩)
    (run_hlo Cert.ReferenceIdeal.defs Cert.ReferenceIdeal.main (ops := refOps) ref_main (by decide) (by decide) (by simp [refOps])
      (by intro op hop; (repeat (cases hop with | head => rfl | tail _ hop => ?_)); exact nomatch hop) m ρ)

end Cert.Proof

end

end
-- ==== Proof.Frames.lean ====
/-
  The frames: the program runs to its end with its argument unchanged and every semaphore at zero, over machine words and
  over extended reals.
-/
module

public import proofs.«01_k».proof.Proof.Launch
public import proofs.«01_k».proof.Proof.Gen.Kernel
public import proofs.«01_k».proof.Proof.Ref

@[expose] public section

noncomputable section

namespace Cert.Proof

open Idealize.ShloMosaic Idealize.SL.Sem

/-- The run with its values dropped. -/
theorem run_frame {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) Cert.KernelIdeal.threads ⟨m, fun _ => 0, ρ⟩
      fun r => (∀ c : Dev Cert.KernelIdeal.nD, r.2.mem (aLoc c) = m (aLoc c)) ∧ r.2.sem = fun _ => 0 :=
  (θ_run Cert.KernelIdeal.defs _ _).mono (fun _ h => ⟨fun c => (h.1 c).1, h.2⟩) (run_main m ρ)

section
variable {F : FTy → Type} [FloatOps F]

/-! The two programs are one text, which is checked piece by piece. -/

set_option maxHeartbeats 1000000 in
theorem tile_body_eq : @Cert.Kernel.cc0__sc_argmax_body F _ _ = @Cert.KernelIdeal.cc0__sc_argmax_body F _ _ := rfl
theorem block_body_eq : @Cert.Kernel.cc1__tc_argmax_body F _ _ = @Cert.KernelIdeal.cc1__tc_argmax_body F _ _ := rfl
set_option maxHeartbeats 1000000 in
theorem bodies_eq : @Cert.Kernel.defs₀ F _ _ = @Cert.KernelIdeal.defs₀ F _ _ := by
  funext p ℓ a
  match p, ℓ, a with
  | .tc, 0, _ => rfl
  | .tc, 1, _ => rfl
  | .scScalar _, 0, _ => rfl
  | .scScalar _, 1, _ => rfl
  | .scVector c s, 0, _ => rfl
  | .scVector c s, 1, _ => rfl
set_option maxHeartbeats 1000000 in
theorem main_text_eq : @Cert.Kernel.main F _ _ = @Cert.KernelIdeal.main F _ _ := rfl
theorem defs_text_eq : @Cert.Kernel.defs F _ _ = @Cert.KernelIdeal.defs F _ _ := by
  unfold Cert.Kernel.defs Cert.KernelIdeal.defs
  rw [bodies_eq]
  rfl
theorem threads_text_eq : @Cert.Kernel.threads F _ _ = @Cert.KernelIdeal.threads F _ _ := by
  unfold Cert.Kernel.threads Cert.KernelIdeal.threads
  rw [main_text_eq]
  rfl
end

/-- The frame over machine words. -/
theorem frame_kernel : Cert.quiescent_Kernel := by
  intro m ρ _
  rw [defs_text_eq, threads_text_eq]
  exact run_frame (F := Bits) m ρ

/-- The frame over extended reals. -/
theorem frame_ideal : Cert.quiescent_KernelIdeal := fun m ρ _ =>
  (θ_run Cert.KernelIdeal.defs _ _).mono (fun _ h => ⟨fun c => (h.1 c).1, h.2⟩) (run_main (F := Ideal) m ρ)

/-- The reference's frame. -/
theorem frame_reference : Cert.quiescent_ReferenceIdeal := fun m ρ _ =>
  (θ_run Cert.ReferenceIdeal.defs _ _).mono (fun r h => ⟨fun c => (h c).1, sem_eq_zero_of_no_sems (by decide) r.2⟩) (ref_run (F := Ideal) m ρ)

end Cert.Proof

end

end
-- ==== Proof.Arg.lean ====
/-
  The first place of the greatest term of a sequence over a set of places, and the folds that find it.
-/
module

public import proofs.«01_k».proof.Proof.Scan
public import Idealize.ShloMosaic.PureOps.Ideal
public import Idealize.ShloMosaic.PureOps.Ideal.Laws

@[expose] public section

noncomputable section

namespace Cert.Proof

open Idealize.ShloMosaic

/-! ## The first greatest term -/

/-- Over the places `P`, `v` is the greatest term of `x` and `n` its first place. -/
def Best (x : ℕ → EReal) (P : ℕ → Prop) (v : EReal) (n : ℕ) : Prop :=
  P n ∧ x n = v ∧ ∀ k, P k → x k ≤ v ∧ (x k = v → n ≤ k)

section Best

variable {x : ℕ → EReal} {P Q : ℕ → Prop} {v v' : EReal} {n n' : ℕ}

theorem Best.unique (h : Best x P v n) (h' : Best x P v' n') : n = n' := by
  have a := h.2.2 n' h'.1
  have b := h'.2.2 n h.1
  have e : v = v' := le_antisymm (h.2.1 ▸ b.1) (h'.2.1 ▸ a.1)
  exact le_antisymm (a.2 (h'.2.1.trans e.symm)) (b.2 (h.2.1.trans e))

theorem Best.congr (h : Best x P v n) (e : ∀ k, P k ↔ Q k) : Best x Q v n :=
  ⟨(e n).mp h.1, h.2.1, fun k hk => h.2.2 k ((e k).mpr hk)⟩

/-- Over two sets of places the second's is first when it is greater, or equal and earlier. -/
theorem Best.right (h : Best x P v n) (h' : Best x Q v' n') (c : v < v' ∨ v' = v ∧ n' < n) : Best x (fun k => P k ∨ Q k) v' n' := by
  refine ⟨Or.inr h'.1, h'.2.1, fun k hk => ?_⟩
  rcases hk with hk | hk
  · obtain ⟨a, b⟩ := h.2.2 k hk
    rcases c with c | ⟨c, d⟩
    · exact ⟨(a.trans_lt c).le, fun e => absurd (e ▸ a) (not_le.mpr c)⟩
    · exact ⟨c ▸ a, fun e => d.le.trans (b (e.trans c))⟩
  · exact h'.2.2 k hk

/-- Otherwise the first's is. -/
theorem Best.left (h : Best x P v n) (h' : Best x Q v' n') (c : ¬(v < v' ∨ v' = v ∧ n' < n)) : Best x (fun k => P k ∨ Q k) v n := by
  refine ⟨Or.inl h.1, h.2.1, fun k hk => ?_⟩
  rcases hk with hk | hk
  · exact h.2.2 k hk
  · obtain ⟨a, b⟩ := h'.2.2 k hk
    have c1 : v' ≤ v := not_lt.mp fun t => c (Or.inl t)
    refine ⟨a.trans c1, fun e => ?_⟩
    have c2 : v' = v := le_antisymm c1 (e ▸ a)
    have c3 : n ≤ n' := not_lt.mp fun t => c (Or.inr ⟨c2, t⟩)
    exact c3.trans (b (e.trans c2.symm))

end Best

/-! ## One bit -/

theorem ofBool_one (b : Bool) : BitVec.ofBool b = 1#1 ↔ b = true := by cases b <;> decide

theorem ogt_iff (a b : EReal) : (FloatOps.cmpf (F := Ideal) (φ := .f32) .ogt a b = 1#1) ↔ b < a := by
  rw [Ideal.cmpf_def]; unfold Ideal.cmp; rw [ofBool_one]; exact decide_eq_true_iff
theorem olt_iff (a b : EReal) : (FloatOps.cmpf (F := Ideal) (φ := .f32) .olt a b = 1#1) ↔ a < b := by
  rw [Ideal.cmpf_def]; unfold Ideal.cmp; rw [ofBool_one]; exact decide_eq_true_iff
theorem oeq_iff (a b : EReal) : (FloatOps.cmpf (F := Ideal) (φ := .f32) .oeq a b = 1#1) ↔ a = b := by
  rw [Ideal.cmpf_def]; unfold Ideal.cmp; rw [ofBool_one]; exact decide_eq_true_iff
theorem une_zero (a : EReal) : FloatOps.cmpf (F := Ideal) (φ := .f32) .une a a = 0#1 := by
  rw [Ideal.cmpf_def]; unfold Ideal.cmp; simp
theorem ori_iff (a b : BitVec 1) : IntOp.ori a b = 1#1 ↔ a = 1#1 ∨ b = 1#1 := by revert a b; decide
theorem andi_iff (a b : BitVec 1) : IntOp.andi a b = 1#1 ↔ a = 1#1 ∧ b = 1#1 := by revert a b; decide
theorem select_eq {α : Type} (c : BitVec 1) (a b : α) : Scalar.select c a b = if c = 1#1 then a else b := by
  rcases BitVec.eq_zero_or_eq_one c with h | h <;> subst h <;> rfl

theorem toInt_ofNat (n : ℕ) (h : n < 2 ^ 31) : (BitVec.ofNat 32 n).toInt = n := by
  rw [BitVec.toInt_ofNat']
  exact Int.bmod_eq_of_le (by omega) (by omega)
theorem slt_iff (a b : ℕ) (ha : a < 2 ^ 31) (hb : b < 2 ^ 31) : IntOp.cmpi .slt (BitVec.ofNat 32 a) (BitVec.ofNat 32 b) = 1#1 ↔ a < b := by
  show BitVec.ofBool (BitVec.slt _ _) = 1#1 ↔ _
  rw [ofBool_one, BitVec.slt, decide_eq_true_iff, toInt_ofNat a ha, toInt_ofNat b hb]
  exact Int.ofNat_lt

/-- The float word of minus infinity. -/
theorem bot_word : FloatOps.ofBits (F := Ideal) .f32 0xFF800000#32 = (⊥ : EReal) := by
  simp [Ideal.ofBits, Ideal.ieee]

/-- A place below `2 ^ 31` goes to a float and back. -/
theorem fptosi_nat (n : ℕ) (h : n < 2 ^ 31) : FloatOps.fptosi (F := Ideal) (φ := .f32) 32 (((n : ℝ) : EReal)) = BitVec.ofNat 32 n := by
  show Ideal.fptosi 32 (((n : ℝ) : EReal)) = _
  unfold Ideal.fptosi
  have e : Ideal.toIntClamped (-(2 ^ (32 - 1) : Nat)) ((2 ^ (32 - 1) : Nat) - 1) (((n : ℝ) : EReal)) = (n : ℤ) := by
    show max _ (min _ (if (0 : ℝ) ≤ (n : ℝ) then ⌊(n : ℝ)⌋ else ⌈(n : ℝ)⌉)) = _
    rw [if_pos (Nat.cast_nonneg n), Int.floor_natCast]
    norm_num
    omega
  rw [e]
  exact BitVec.ofInt_natCast 32 n

theorem sitofp_nat (n : ℕ) (h : n < 2 ^ 31) : FloatOps.sitofp (F := Ideal) .f32 (BitVec.ofNat 32 n) = (((n : ℝ) : EReal)) := by
  show ((((BitVec.ofNat 32 n).toInt : ℝ)) : EReal) = _
  rw [toInt_ofNat n h]
  norm_num

theorem nat_lt_iff (a b : ℕ) : (((a : ℝ) : EReal)) < (((b : ℝ) : EReal)) ↔ a < b := by
  rw [EReal.coe_lt_coe_iff, Nat.cast_lt]

/-! ## The running maximum -/

/-- After at least one term the running maximum is the greatest so far, with its first place. -/
theorem chain_best (y : ℕ → Ideal .f32) (n : ℕ) :
    ∃ g, (chain y (n + 1)).2 = BitVec.ofNat 32 g ∧ Best y (· < n + 1) (chain y (n + 1)).1 g := by
  induction n with
  | zero =>
    refine ⟨0, ?_, by omega, ?_, fun k hk => ?_⟩
    · show Scalar.select _ (BitVec.ofNat 32 0) 0#32 = _
      rw [select_eq]; split <;> rfl
    all_goals
      have e : (chain y (0 + 1)).1 = y 0 := by
        show Scalar.select _ (y 0) (FloatOps.ofBits .f32 0xFF800000) = _
        rw [select_eq]
        split
        · rfl
        · rename_i h
          rw [ogt_iff, show (chain y 0).1 = (⊥ : EReal) from bot_word] at h
          exact bot_word.trans (not_bot_lt_iff.mp h).symm
      rw [e]
    obtain rfl : k = 0 := by omega
    exact ⟨le_rfl, fun _ => le_rfl⟩
  | succ n ih =>
    obtain ⟨g, hg, hb⟩ := ih
    have e1 : (chain y (n + 1 + 1)).1 = if (chain y (n + 1)).1 < y (n + 1) then y (n + 1) else (chain y (n + 1)).1 := by
      show Scalar.select _ _ _ = _
      rw [select_eq]; exact if_congr (ogt_iff _ _) rfl rfl
    have e2 : (chain y (n + 1 + 1)).2 = if (chain y (n + 1)).1 < y (n + 1) then BitVec.ofNat 32 (n + 1) else (chain y (n + 1)).2 := by
      show Scalar.select _ _ _ = _
      rw [select_eq]; exact if_congr (ogt_iff _ _) rfl rfl
    have hq : Best y (· = n + 1) (y (n + 1)) (n + 1) := ⟨rfl, rfl, fun k hk => by subst hk; exact ⟨le_rfl, fun _ => le_rfl⟩⟩
    have hu : ∀ k, (k < n + 1 ∨ k = n + 1) ↔ k < n + 1 + 1 := fun k => by omega
    have hlt : g < n + 1 := hb.1
    by_cases c : (chain y (n + 1)).1 < y (n + 1)
    · refine ⟨n + 1, e2.trans (if_pos c), ?_⟩
      rw [e1, if_pos c]
      exact (hb.right hq (Or.inl c)).congr hu
    · refine ⟨g, (e2.trans (if_neg c)).trans hg, ?_⟩
      rw [e1, if_neg c]
      exact (hb.left hq (fun h => h.elim c fun h => by omega)).congr hu

/-! ## The arg-max fold -/

/-- The pair-wise step: the greater value, and its place, the lesser place where they are equal. -/
def IsArgMax (f : Ideal .f32 × BitVec 32 → Ideal .f32 × BitVec 32 → Ideal .f32 × BitVec 32) : Prop :=
  ∀ (u v : EReal) (a b : ℕ), a < 2 ^ 31 → b < 2 ^ 31 →
    f (u, BitVec.ofNat 32 a) (v, BitVec.ofNat 32 b) = (if v < u then u else v, BitVec.ofNat 32 (if v < u ∨ (u = v ∧ a < b) then a else b))

/-- The fold of that step over a list of places, from minus infinity at place zero. -/
theorem argmax_fold {ι : Type} (f : Ideal .f32 × BitVec 32 → Ideal .f32 × BitVec 32 → Ideal .f32 × BitVec 32) (hf : IsArgMax f)
    (x : ι → EReal) (κ : ι → ℕ) (hκ : ∀ i, κ i < 2 ^ 31) (l : List ι) :
    ∃ (v : EReal) (n : ℕ), l.foldl (fun r i => f r (x i, BitVec.ofNat 32 (κ i))) ((⊥ : EReal), 0#32) = (v, BitVec.ofNat 32 n) ∧ n < 2 ^ 31
      ∧ (∀ i ∈ l, x i ≤ v ∧ (x i = v → n ≤ κ i)) ∧ ((v = ⊥ ∧ n = 0) ∨ ∃ i ∈ l, κ i = n ∧ x i = v) := by
  induction l using List.reverseRecOn with
  | nil => exact ⟨⊥, 0, rfl, by norm_num, fun _ h => absurd h List.not_mem_nil, Or.inl ⟨rfl, rfl⟩⟩
  | append_singleton l j ih =>
    obtain ⟨v, n, e, hn, h1, h2⟩ := ih
    rw [List.foldl_append, e]
    refine ⟨_, _, hf v (x j) n (κ j) hn (hκ j), ?_, ?_, ?_⟩
    · split
      · exact hn
      · exact hκ j
    · intro i hi
      rcases List.mem_append.mp hi with hi | hi
      · obtain ⟨a, b⟩ := h1 i hi
        rcases lt_trichotomy v (x j) with c | c | c
        · rw [if_neg (not_lt.mpr c.le), if_neg (by rintro (t | ⟨t, _⟩); exacts [lt_asymm c t, c.ne t])]
          exact ⟨a.trans c.le, fun t => absurd (t ▸ a) (not_le.mpr c)⟩
        · subst c
          simp only [lt_self_iff_false, if_false, false_or, true_and]
          refine ⟨a, fun t => ?_⟩
          have := b t
          split <;> omega
        · rw [if_pos c, if_pos (Or.inl c)]
          exact ⟨a, b⟩
      · obtain rfl := List.mem_singleton.mp hi
        rcases lt_trichotomy v (x i) with c | c | c
        · rw [if_neg (not_lt.mpr c.le), if_neg (by rintro (t | ⟨t, _⟩); exacts [lt_asymm c t, c.ne t])]
          exact ⟨le_rfl, fun _ => le_rfl⟩
        · subst c
          simp only [lt_self_iff_false, if_false, false_or, true_and]
          refine ⟨le_rfl, fun _ => ?_⟩
          split <;> omega
        · rw [if_pos c, if_pos (Or.inl c)]
          exact ⟨c.le, fun t => absurd t c.ne⟩
    · have hj : j ∈ l ++ [j] := List.mem_append.mpr (Or.inr (List.mem_singleton.mpr rfl))
      have keep : (v = ⊥ ∧ n = 0) ∨ ∃ i ∈ l ++ [j], κ i = n ∧ x i = v :=
        h2.imp id fun ⟨i, hi, h⟩ => ⟨i, List.mem_append.mpr (Or.inl hi), h⟩
      rcases lt_trichotomy v (x j) with c | c | c
      · rw [if_neg (not_lt.mpr c.le), if_neg (by rintro (t | ⟨t, _⟩); exacts [lt_asymm c t, c.ne t])]
        exact Or.inr ⟨j, hj, rfl, rfl⟩
      · rw [c, if_neg (lt_irrefl _)]
        by_cases d : n < κ j
        · rw [if_pos (Or.inr ⟨rfl, d⟩), ← c]; exact keep
        · rw [if_neg (by rintro (t | ⟨_, t⟩); exacts [lt_irrefl _ t, d t])]
          exact Or.inr ⟨j, hj, rfl, rfl⟩
      · rw [if_pos c, if_pos (Or.inl c)]; exact keep

/-- A host arg-max of `x` with places `κ`, one of them zero: it finds the greatest and its first place. -/
theorem argReduce_best {s t u : Shape} {axes : List (Fin s.rank)}
    (f : Ideal .f32 × BitVec 32 → Ideal .f32 × BitVec 32 → Ideal .f32 × BitVec 32) (hf : IsArgMax f)
    (x : FVec Ideal s .f32) (y : IVec s 32) (κ : s.Idx → ℕ) (hy : ∀ i, y i = BitVec.ofNat 32 (κ i)) (hκ : ∀ i, κ i < 2 ^ 31)
    (ix : FVec Ideal u .f32) (iy : IVec u 32) (hix : ∀ i, ix i = (⊥ : EReal)) (hiy : ∀ i, iy i = 0#32)
    (h : s.ReducesTo axes t) (hu : 0 < u.numel) (j : t.Idx) (i₀ : s.Idx) (h₀ : h.drop i₀ = j) (hk : κ i₀ = 0) :
    ∃ i, h.drop i = j ∧ Host.argReduce f x y ix iy h hu j = (x i, BitVec.ofNat 32 (κ i))
      ∧ ∀ k, h.drop k = j → (x k : EReal) ≤ x i ∧ ((x k : EReal) = x i → κ i ≤ κ k) := by
  rw [Ideal.argReduce_eq_reduce2]
  unfold Host.reduce2
  rw [hix, hiy]
  obtain ⟨v, n, e, hn, h1, h2⟩ := argmax_fold f hf (fun m => x (s.rowMajor.symm m)) (fun m => κ (s.rowMajor.symm m)) (fun m => hκ _)
    ((List.finRange s.numel).filter fun n => h.drop (s.rowMajor.symm n) = j)
  simp only [hy]
  rw [e]
  have mem : ∀ k, h.drop k = j → s.rowMajor k ∈ (List.finRange s.numel).filter fun n => h.drop (s.rowMajor.symm n) = j := fun k hk => by
    simp [hk]
  have all : ∀ k, h.drop k = j → (x k : EReal) ≤ v ∧ ((x k : EReal) = v → n ≤ κ k) := fun k hk => by
    have := h1 _ (mem k hk)
    simpa using this
  have found : ∃ i, h.drop i = j ∧ κ i = n ∧ (x i : EReal) = v := by
    rcases h2 with ⟨a, b⟩ | ⟨m, hm, a, b⟩
    · exact ⟨i₀, h₀, hk.trans b.symm, le_antisymm (all i₀ h₀).1 (a ▸ bot_le)⟩
    · exact ⟨s.rowMajor.symm m, by simpa using (List.mem_filter.mp hm).2, a, b⟩
  obtain ⟨i, hi, ei, ev⟩ := found
  subst ei ev
  exact ⟨i, hi, rfl, all⟩

/-! ## The folds of a block -/

/-- A fold of `max` from minus infinity over a nonempty list is its greatest term. -/
theorem max_fold {ι : Type} (x : ι → EReal) (l : List ι) :
    (∀ i ∈ l, x i ≤ l.foldl (fun r i => max r (x i)) ⊥) ∧ (l ≠ [] → ∃ i ∈ l, x i = l.foldl (fun r i => max r (x i)) ⊥) := by
  induction l using List.reverseRecOn with
  | nil => exact ⟨fun _ h => absurd h List.not_mem_nil, fun h => absurd rfl h⟩
  | append_singleton l j ih =>
    rw [List.foldl_append]
    show (∀ i ∈ _, x i ≤ max _ (x j)) ∧ (_ → ∃ i ∈ _, x i = max _ (x j))
    have hj : j ∈ l ++ [j] := List.mem_append.mpr (Or.inr (List.mem_singleton.mpr rfl))
    refine ⟨fun i hi => ?_, fun _ => ?_⟩
    · rcases List.mem_append.mp hi with hi | hi
      · exact (ih.1 i hi).trans (le_max_left _ _)
      · obtain rfl := List.mem_singleton.mp hi; exact le_max_right _ _
    · by_cases hl : l = []
      · subst hl; exact ⟨j, hj, (max_eq_right bot_le).symm⟩
      · obtain ⟨i, hi, e⟩ := ih.2 hl
        rcases le_total (l.foldl (fun r i => max r (x i)) ⊥) (x j) with c | c
        · exact ⟨j, hj, (max_eq_right c).symm⟩
        · exact ⟨i, List.mem_append.mpr (Or.inl hi), e.trans (max_eq_left c).symm⟩

/-- A fold of the signed minimum is below every term, and the start or a term. -/
theorem min_fold {ι : Type} (z : ι → BitVec 32) (w : BitVec 32) (l : List ι) :
    (∀ i ∈ l, (l.foldl (fun r i => IntOp.minsi r (z i)) w).toInt ≤ (z i).toInt) ∧
      (l.foldl (fun r i => IntOp.minsi r (z i)) w = w ∨ ∃ i ∈ l, l.foldl (fun r i => IntOp.minsi r (z i)) w = z i) := by
  have hmin : ∀ a b : BitVec 32, ((IntOp.minsi a b).toInt ≤ a.toInt ∧ (IntOp.minsi a b).toInt ≤ b.toInt) ∧ (IntOp.minsi a b = a ∨ IntOp.minsi a b = b) := fun a b => by
    simp only [IntOp.minsi, BitVec.slt, decide_eq_true_eq]
    split_ifs
    · exact ⟨⟨le_rfl, by omega⟩, Or.inl rfl⟩
    · exact ⟨⟨by omega, le_rfl⟩, Or.inr rfl⟩
  induction l using List.reverseRecOn with
  | nil => exact ⟨fun _ h => absurd h List.not_mem_nil, Or.inl rfl⟩
  | append_singleton l j ih =>
    rw [List.foldl_append]
    show (∀ i ∈ _, (IntOp.minsi _ (z j)).toInt ≤ _) ∧ (IntOp.minsi _ (z j) = _ ∨ ∃ i ∈ _, IntOp.minsi _ (z j) = _)
    obtain ⟨⟨m1, m2⟩, m3⟩ := hmin (l.foldl (fun r i => IntOp.minsi r (z i)) w) (z j)
    refine ⟨fun i hi => ?_, ?_⟩
    · rcases List.mem_append.mp hi with hi | hi
      · exact m1.trans (ih.1 i hi)
      · obtain rfl := List.mem_singleton.mp hi; exact m2
    · rcases m3 with m3 | m3
      · rw [m3]
        exact ih.2.imp id fun ⟨i, hi, e⟩ => ⟨i, List.mem_append.mpr (Or.inl hi), e⟩
      · exact Or.inr ⟨j, List.mem_append.mpr (Or.inr (List.mem_singleton.mpr rfl)), m3⟩

end Cert.Proof

end

end
-- ==== Proof.Found.lean ====
/-
  What the two kernels find over the extended reals: a tile the first greatest entry of each column in its rows, the
  TensorCore's kernel the first greatest entry of each column in the rows below the tiles'.
-/
module

public import proofs.«01_k».proof.Proof.Arg
public import proofs.«01_k».proof.Proof.Region
public import proofs.«01_k».proof.Proof.Pay
public import Idealize.ShloMosaic.Lib.ValueIdx

@[expose] public section

noncomputable section

namespace Cert.Proof

open Cert.KernelIdeal Cert.KernelIdeal.Gen
open Idealize.ShloMosaic
open Idealize.ShloMosaic.ValueIdx (ix1 ix2 ix3 ix4 eq_ix1 eq_ix2 eq_ix3)

variable (X : S100000x128.Idx → Ideal .f32)

/-! ## A tile -/

theorem rowOf_apply (b g p n : ℕ) (l : S16.Idx) (h : gV X b 736 p g l = BitVec.ofNat 32 n) :
    rowOf X (BitVec.ofNat 32 b) b g p l = BitVec.ofNat 32 (b + 2 * n + p) := by
  show (BitVec.ofNat 32 b + gV X b 736 p g l * 2#32) + BitVec.ofNat 32 p = _
  rw [h]
  apply BitVec.eq_of_toNat_eq
  simp only [BitVec.toNat_add, BitVec.toNat_mul, BitVec.toNat_ofNat]
  omega

/-- The chain of one parity finds the first greatest entry among the rows of that parity. -/
theorem chain_parity (b g p N : ℕ) (l : S16.Idx) (hN : 0 < N) :
    ∃ n, gV X b N p g l = BitVec.ofNat 32 n ∧ n < N
      ∧ Best (fun r => cell X r (16 * g + (l 0).val)) (fun r => ∃ k < N, r = b + 2 * k + p) (mV X b N p g l) (b + 2 * n + p) := by
  obtain ⟨N, rfl⟩ : ∃ k, N = k + 1 := ⟨N - 1, by omega⟩
  obtain ⟨n, e, h1, h2, h3⟩ := chain_best (xs X b p g l) N
  refine ⟨n, e, h1, ⟨n, h1, rfl⟩, h2, ?_⟩
  rintro _ ⟨k, hk, rfl⟩
  obtain ⟨u, v⟩ := h3 k hk
  exact ⟨u, fun t => by have := v t; omega⟩

attribute [local irreducible] chain mV gV

theorem tile_best (b g : ℕ) (l : S16.Idx) (hb : b + 1472 < 2 ^ 31) :
    ∃ n, tileRow X (BitVec.ofNat 32 b) b g l = BitVec.ofNat 32 n
      ∧ Best (fun r => cell X r (16 * g + (l 0).val)) (fun r => b ≤ r ∧ r < b + 1472) (tileMax X (BitVec.ofNat 32 b) b g l) n := by
  obtain ⟨n0, e0, l0, B0⟩ := chain_parity X b g 0 736 l (by decide)
  obtain ⟨n1, e1, l1, B1⟩ := chain_parity X b g 1 736 l (by decide)
  have r0 := rowOf_apply X b g 0 n0 l e0
  have r1 := rowOf_apply X b g 1 n1 l e1
  have ho : odd X (BitVec.ofNat 32 b) b g l = 1#1 ↔
      ((mV X b 736 0 g l : EReal) < mV X b 736 1 g l ∨ (mV X b 736 1 g l : EReal) = mV X b 736 0 g l ∧ b + 2 * n1 + 1 < b + 2 * n0 + 0) := by
    show IntOp.ori (FloatOps.cmpf .ogt (mV X b 736 1 g l) (mV X b 736 0 g l)) (IntOp.andi (FloatOps.cmpf .oeq (mV X b 736 1 g l) (mV X b 736 0 g l))
      (IntOp.cmpi .slt (rowOf X (BitVec.ofNat 32 b) b g 1 l) (rowOf X (BitVec.ofNat 32 b) b g 0 l))) = 1#1 ↔ _
    rw [ori_iff, andi_iff, ogt_iff, oeq_iff, r0, r1, slt_iff _ _ (by omega) (by omega)]
  have hu : ∀ r, ((∃ k < 736, r = b + 2 * k + 0) ∨ ∃ k < 736, r = b + 2 * k + 1) ↔ b ≤ r ∧ r < b + 1472 := fun r => by
    constructor
    · rintro (⟨k, hk, rfl⟩ | ⟨k, hk, rfl⟩) <;> omega
    · intro h
      rcases Nat.mod_two_eq_zero_or_one (r - b) with c | c
      · exact Or.inl ⟨(r - b) / 2, by omega, by omega⟩
      · exact Or.inr ⟨(r - b) / 2, by omega, by omega⟩
  have em : tileMax X (BitVec.ofNat 32 b) b g l = if odd X (BitVec.ofNat 32 b) b g l = 1#1 then mV X b 736 1 g l else mV X b 736 0 g l := select_eq _ _ _
  have er : tileRow X (BitVec.ofNat 32 b) b g l = if odd X (BitVec.ofNat 32 b) b g l = 1#1 then rowOf X (BitVec.ofNat 32 b) b g 1 l else rowOf X (BitVec.ofNat 32 b) b g 0 l :=
    select_eq _ _ _
  by_cases c : odd X (BitVec.ofNat 32 b) b g l = 1#1
  · rw [em, er, if_pos c, if_pos c, r1]
    exact ⟨_, rfl, (B0.right B1 (ho.mp c)).congr hu⟩
  · rw [em, er, if_neg c, if_neg c, r0]
    exact ⟨_, rfl, (B0.left B1 (fun t => c (ho.mpr t))).congr hu⟩

/-- Row `w` of the tiles' results at column `c`: the maximum and its row. -/
theorem out_best (w : Fin 32) (c : Fin 128) :
    ∃ n : ℕ, outOf X (ix4 w 1 (⟨c.val / 16, by omega⟩ : Fin 8) (⟨c.val % 16, by omega⟩ : Fin 16)) = (((n : ℝ) : EReal))
      ∧ Best (fun r => cell X r c.val) (fun r => 1472 * w.val ≤ r ∧ r < 1472 * w.val + 1472)
        (outOf X (ix4 w 0 (⟨c.val / 16, by omega⟩ : Fin 8) (⟨c.val % 16, by omega⟩ : Fin 16))) n := by
  have hw := w.isLt
  obtain ⟨n, e, B⟩ := tile_best X (1472 * w.val) (c.val / 16) (ix1 (⟨c.val % 16, by omega⟩ : Fin 16)) (by omega)
  have hn := B.1
  refine ⟨n, ?_, ?_⟩
  · show FloatOps.sitofp .f32 (tileRow X (BitVec.ofNat 32 (1472 * w.val)) (1472 * w.val) (c.val / 16) (ix1 (⟨c.val % 16, by omega⟩ : Fin 16))) = _
    rw [e]
    exact sitofp_nat n (by omega)
  · have hc : 16 * (c.val / 16) + c.val % 16 = c.val := by omega
    have B' : Best (fun r => cell X r (16 * (c.val / 16) + c.val % 16)) (fun r => 1472 * w.val ≤ r ∧ r < 1472 * w.val + 1472)
      (tileMax X (BitVec.ofNat 32 (1472 * w.val)) (1472 * w.val) (c.val / 16) (ix1 (⟨c.val % 16, by omega⟩ : Fin 16))) n := B
    rw [hc] at B'
    exact B'

end Cert.Proof

end

end
-- ==== Proof.FoundTC.lean ====
/-
  What the TensorCore's kernel finds over the extended reals: the first greatest entry of each column in the rows below
  the tiles'.
-/
module

public import proofs.«01_k».proof.Proof.Arg
public import proofs.«01_k».proof.Proof.Region
public import Idealize.ShloMosaic.Lib.ValueIdx

@[expose] public section

noncomputable section

namespace Cert.Proof

open Cert.KernelIdeal Cert.KernelIdeal.Gen
open Idealize.ShloMosaic
open Idealize.ShloMosaic.ValueIdx (ix1 ix2 ix3 ix4 eq_ix1 eq_ix2 eq_ix3)

theorem fin_ne_nil : List.finRange 4000 ≠ [] := fun h => by
  have := congrArg List.length h
  rw [List.length_finRange] at this
  exact absurd this (by decide)

attribute [local irreducible] List.finRange

variable (B : FVec Ideal S4000x128 .f32) (c : Fin 128)

/-- A block read in its own shape. -/
theorem pay1_eq : k1_pay1 (F := Ideal) B = B := by
  funext y
  exact shapeCast_apply _ _ y y rfl

/-- A fold over a block's rows, at a column. -/
theorem rows_fold {α : Type} (f : α → α → α) (w : α) (x : S4000x128.Idx → α) :
    reduceFold reduces_S4000x128_S128 f w x (ix1 c) = (List.finRange 4000).foldl (fun a r => f a (x (ix2 r c))) w := by
  rw [reduceFold_rows]
  have hp : ∀ r : Fin 4000, Shape.pair (d := ![4000, 128]) r (reduces_S4000x128_S128.col (ix1 c)) = ix2 r c := fun r => by
    funext a
    match a with
    | ⟨0, _⟩ => rfl
    | ⟨1, _⟩ => rfl
  exact congrArg (fun g => List.foldl g w (List.finRange 4000)) (funext fun a => funext fun r => by rw [← hp r])

/-- The column maximum of a block. -/
theorem pay2_max : (∀ r : Fin 4000, (B (ix2 r c) : EReal) ≤ k1_pay2 (F := Ideal) B (ix1 c)) ∧ ∃ r : Fin 4000, (B (ix2 r c) : EReal) = k1_pay2 (F := Ideal) B (ix1 c) := by
  have e : k1_pay2 (F := Ideal) B (ix1 c) = (List.finRange 4000).foldl (fun r i => max r (B (ix2 i c))) (⊥ : EReal) := by
    have h0 : k1_pay2 (F := Ideal) B (ix1 c) = reduceFold reduces_S4000x128_S128 FloatOps.maximumf (FloatOps.ofBits .f32 0xFF800000#32) (k1_pay1 (F := Ideal) B) (ix1 c) := rfl
    rw [h0, pay1_eq, rows_fold, bot_word]
    rfl
  have := max_fold (fun r : Fin 4000 => (B (ix2 r c) : EReal)) (List.finRange 4000)
  rw [e]
  refine ⟨fun r => this.1 r (List.mem_finRange r), ?_⟩
  obtain ⟨r, _, h⟩ := this.2 fin_ne_nil
  exact ⟨r, h⟩

/-- The row of a block at which a column's maximum first is, as a float counted from the first row of all. -/
theorem pay3_row (i : grid1.Coords) (t : ℕ) (ht : (i 0).val = t) (hi : t < 14) :
    ∃ r : Fin 4000, (B (ix2 r c) : EReal) = k1_pay2 (F := Ideal) B (ix1 c) ∧ (∀ k : Fin 4000, (B (ix2 k c) : EReal) = k1_pay2 (F := Ideal) B (ix1 c) → r.val ≤ k.val)
      ∧ k1_pay3 (F := Ideal) i B (ix1 c) = ((((4000 * (11 + t) + r.val : ℕ) : ℝ) : EReal)) := by
  obtain ⟨_, r₀, h₀⟩ := pay2_max B c
  obtain ⟨z, hz⟩ : ∃ z : Fin 4000 → BitVec 32, z = fun r => if (B (ix2 r c) : EReal) = k1_pay2 (F := Ideal) B (ix1 c) then BitVec.ofNat 32 r.val else 2147483647#32 := ⟨_, rfl⟩
  have e : k1_pay3 (F := Ideal) i B (ix1 c) = FloatOps.sitofp (F := Ideal) .f32 (((List.finRange 4000).foldl (fun r i => IntOp.minsi r (z i)) 2147483647#32)
      + (11#32 + BitVec.ofNat 32 t) * 4000#32) := by
    subst ht hz
    have h0 : k1_pay3 (F := Ideal) i B (ix1 c) = FloatOps.sitofp (F := Ideal) .f32 (reduceFold reduces_S4000x128_S128 IntOp.minsi 2147483647#32 (select (cmpf .oeq (k1_pay1 (F := Ideal) B)
      (broadcastTo S4000x128 (shapeCast S1x128 (k1_pay2 (F := Ideal) B) shapeCasts_S128_S1x128) broadcasts_S1x128_S4000x128)) (iota .tc S4000x128 32 [0] iota_S4000x128_d0_w32) (broadcast S4000x128 2147483647#32)) (ix1 c)
      + (11#32 + BitVec.ofNat 32 (i 0).val) * 4000#32) := rfl
    rw [h0, pay1_eq, rows_fold]
    refine congrArg (fun f => FloatOps.sitofp (F := Ideal) .f32 (List.foldl f 2147483647#32 (List.finRange 4000) + (11#32 + BitVec.ofNat 32 (i 0).val) * 4000#32))
      (funext fun a => funext fun r => congrArg (IntOp.minsi a) ?_)
    show Scalar.select (FloatOps.cmpf (F := Ideal) .oeq (B (ix2 r c)) (broadcastTo S4000x128 (shapeCast S1x128 (k1_pay2 (F := Ideal) B) shapeCasts_S128_S1x128) broadcasts_S1x128_S4000x128 (ix2 r c)))
      (iota .tc S4000x128 32 [0] iota_S4000x128_d0_w32 (ix2 r c)) 2147483647#32 = _
    rw [broadcastTo_apply _ _ (ix2 r c) (ix2 (0 : Fin 1) c) (fun a => match a with | ⟨0, _⟩ => rfl | ⟨1, _⟩ => rfl), flat128, iota_single_apply, select_eq]
    exact if_congr (oeq_iff _ _) rfl rfl
  obtain ⟨m1, m2⟩ := min_fold z 2147483647#32 (List.finRange 4000)
  generalize (List.finRange 4000).foldl (fun r i => IntOp.minsi r (z i)) 2147483647#32 = m at e m1 m2
  have zt : ∀ k : Fin 4000, (B (ix2 k c) : EReal) = k1_pay2 (F := Ideal) B (ix1 c) → (z k).toInt = k.val := fun k hk => by
    have hk' := k.isLt
    rw [hz]; simp only [if_pos hk]; exact toInt_ofNat _ (by omega)
  have big : (2147483647#32 : BitVec 32).toInt = 2147483647 := by decide
  have small : m.toInt < 4000 := by
    have := m1 r₀ (List.mem_finRange r₀)
    rw [zt r₀ h₀] at this
    have := r₀.isLt
    omega
  rcases m2 with m2 | ⟨r, _, m2⟩
  · rw [m2, big] at small; omega
  by_cases hr : (B (ix2 r c) : EReal) = k1_pay2 (F := Ideal) B (ix1 c)
  · refine ⟨r, hr, fun k hk => ?_, ?_⟩
    · have := m1 k (List.mem_finRange k)
      rw [m2, zt r hr, zt k hk] at this
      omega
    · have hr' := r.isLt
      have em : m + (11#32 + BitVec.ofNat 32 t) * 4000#32 = BitVec.ofNat 32 (4000 * (11 + t) + r.val) := by
        rw [m2, hz]
        simp only [if_pos hr]
        apply BitVec.eq_of_toNat_eq
        simp only [BitVec.toNat_add, BitVec.toNat_mul, BitVec.toNat_ofNat]
        omega
      rw [e, em]
      exact sitofp_nat _ (by omega)
  · have : z r = 2147483647#32 := by rw [hz]; simp only [if_neg hr]
    rw [m2, this, big] at small
    omega

/-! ## All blocks -/

theorem coord_eq : ∀ t : Fin grid1.N, (grid1.coords t 0).val = t.val := by decide +kernel

variable (X : FVec Ideal S100000x128 .f32)

/-- A block's column maximum and its row, among the rows of the block. -/
theorem block_best (t : Fin cfg1.N) :
    ∃ n : ℕ, k1_pay3 (F := Ideal) (grid1.coords t) (blkOf (F := Ideal) X t) (ix1 c) = (((n : ℝ) : EReal))
      ∧ Best (fun r => cell (F := Ideal) X r c.val) (fun r => 4000 * (11 + t.val) ≤ r ∧ r < 4000 * (11 + t.val) + 4000) (k1_pay2 (F := Ideal) (blkOf (F := Ideal) X t) (ix1 c)) n := by
  have ht : t.val < 14 := t.isLt
  obtain ⟨r, e1, e2, e3⟩ := pay3_row (blkOf (F := Ideal) X t) c (grid1.coords t) t.val (coord_eq t) ht
  have hr := r.isLt
  have rd : ∀ k : Fin 4000, blkOf (F := Ideal) X t (ix2 k c) = cell (F := Ideal) X (4000 * (11 + t.val) + k.val) c.val := fun k => by
    have hk := k.isLt
    rw [blkOf_apply]
    refine congrArg X ?_
    funext a
    refine Fin.ext ?_
    match a with
    | ⟨0, _⟩ => exact (Nat.mod_eq_of_lt (show 4000 * (11 + t.val) + k.val < 100000 by omega)).symm
    | ⟨1, _⟩ => exact (Nat.mod_eq_of_lt c.isLt).symm
  refine ⟨_, e3, ⟨by omega, by omega⟩, (rd r).symm.trans e1, fun k hk => ?_⟩
  obtain ⟨j, rfl⟩ : ∃ j, k = 4000 * (11 + t.val) + j := ⟨k - 4000 * (11 + t.val), by omega⟩
  have hj : j < 4000 := by omega
  have := rd ⟨j, hj⟩
  have hle := (pay2_max (blkOf (F := Ideal) X t) c).1 ⟨j, hj⟩
  refine ⟨(le_of_eq this.symm).trans hle, fun h => ?_⟩
  have := e2 ⟨j, hj⟩ (this.trans h)
  simp only at this
  omega

/-- After block `n`, the running maximum and its row among the rows of all blocks so far. -/
theorem acc_best (n : ℕ) (h : n < cfg1.N) :
    ∃ k : ℕ, accOf (F := Ideal) X n h (ix2 1 c) = (((k : ℝ) : EReal))
      ∧ Best (fun r => cell (F := Ideal) X r c.val) (fun r => 44000 ≤ r ∧ r < 44000 + 4000 * (n + 1)) (accOf (F := Ideal) X n h (ix2 0 c)) k := by
  induction n with
  | zero =>
    obtain ⟨k, e, b⟩ := block_best c X ⟨0, h⟩
    exact ⟨k, e, b.congr fun r => by show _ ∧ _ ↔ _; simp only⟩
  | succ n ih =>
    obtain ⟨k, e, b⟩ := ih (Nat.lt_of_succ_lt h)
    obtain ⟨k', e', b'⟩ := block_best c X ⟨n + 1, h⟩
    have u : ∀ r, ((44000 ≤ r ∧ r < 44000 + 4000 * (n + 1)) ∨ (4000 * (11 + (n + 1)) ≤ r ∧ r < 4000 * (11 + (n + 1)) + 4000)) ↔ (44000 ≤ r ∧ r < 44000 + 4000 * (n + 1 + 1)) := fun r => by omega
    have hk := b.1.2
    have hk' : 4000 * (11 + (n + 1)) ≤ k' := b'.1.1
    have s0 : accOf (F := Ideal) X (n + 1) h (ix2 0 c) = Scalar.select (FloatOps.cmpf (F := Ideal) .ogt (k1_pay2 (F := Ideal) (blkOf (F := Ideal) X ⟨n + 1, h⟩) (ix1 c)) (accOf (F := Ideal) X n (Nat.lt_of_succ_lt h) (ix2 0 c)))
        (k1_pay2 (F := Ideal) (blkOf (F := Ideal) X ⟨n + 1, h⟩) (ix1 c)) (accOf (F := Ideal) X n (Nat.lt_of_succ_lt h) (ix2 0 c)) := rfl
    have s1 : accOf (F := Ideal) X (n + 1) h (ix2 1 c) = Scalar.select (FloatOps.cmpf (F := Ideal) .ogt (k1_pay2 (F := Ideal) (blkOf (F := Ideal) X ⟨n + 1, h⟩) (ix1 c)) (accOf (F := Ideal) X n (Nat.lt_of_succ_lt h) (ix2 0 c)))
        (k1_pay3 (F := Ideal) (grid1.coords ⟨n + 1, h⟩) (blkOf (F := Ideal) X ⟨n + 1, h⟩) (ix1 c)) (accOf (F := Ideal) X n (Nat.lt_of_succ_lt h) (ix2 1 c)) := rfl
    rw [s0, s1, select_eq, select_eq]
    by_cases c1 : FloatOps.cmpf (F := Ideal) .ogt (k1_pay2 (F := Ideal) (blkOf (F := Ideal) X ⟨n + 1, h⟩) (ix1 c)) (accOf (F := Ideal) X n (Nat.lt_of_succ_lt h) (ix2 0 c)) = 1#1
    · rw [if_pos c1, if_pos c1]
      exact ⟨k', e', (b.right b' (Or.inl ((ogt_iff _ _).mp c1))).congr u⟩
    · rw [if_neg c1, if_neg c1]
      exact ⟨k, e, (b.left b' (fun t => t.elim (fun t => c1 ((ogt_iff _ _).mpr t)) fun t => by omega)).congr u⟩

end Cert.Proof

end

end
-- ==== Proof.RefBest.lean ====
/-
  What the reference finds over the extended reals: the first greatest entry of each row.
-/
module

public import proofs.«01_k».proof.Proof.Arg
public import proofs.«01_k».proof.Proof.Ref
public import Idealize.ShloMosaic.Lib.ValueIdx

@[expose] public section

noncomputable section

namespace Cert.Proof

open Cert.ReferenceIdeal Cert.ReferenceIdeal.Gen
open Idealize.ShloMosaic
open Idealize.ShloMosaic.ValueIdx (ix1 ix2)

theorem refOut_eq {F : FTy → Type} [FloatOps F] (A : FVec F S128x100000 .f32) : refOut A = fun j =>
    (Host.argReduce reducer_argmax_f32_i32 A (iotaInDim S128x100000 32 1) (constant S_ .f32 0xFF800000#32) (constantI S_ 32 0#32) reducesTo_S128x100000_S128_d1 h_S_ j).2 := rfl

theorem ref_drop (i : S128x100000.Idx) : (reducesTo_S128x100000_S128_d1.drop i 0).val = (i 0).val :=
  Shape.ReducesTo.drop_apply_val_of_eq reducesTo_S128x100000_S128_d1 i 0 0 (by decide) (by decide)

theorem ref_step : IsArgMax (Cert.ReferenceIdeal.reducer_argmax_f32_i32 (F := Ideal)) := fun u v a b ha hb => by
  have e4 : IntOp.ori (FloatOps.cmpf (F := Ideal) (φ := .f32) .ogt u v) (FloatOps.cmpf (F := Ideal) (φ := .f32) .une u u) = 1#1 ↔ v < u := by
    rw [ori_iff, ogt_iff, une_zero]; simp
  show ((Scalar.select (IntOp.ori (FloatOps.cmpf (F := Ideal) (φ := .f32) .ogt u v) (FloatOps.cmpf (F := Ideal) (φ := .f32) .une u u)) u v,
    Scalar.select (IntOp.ori (IntOp.ori (FloatOps.cmpf (F := Ideal) (φ := .f32) .ogt u v) (FloatOps.cmpf (F := Ideal) (φ := .f32) .une u u))
      (IntOp.andi (FloatOps.cmpf (F := Ideal) (φ := .f32) .oeq u v) (IntOp.cmpi .slt (BitVec.ofNat 32 a) (BitVec.ofNat 32 b)))) (BitVec.ofNat 32 a) (BitVec.ofNat 32 b)) :
      EReal × BitVec 32) = _
  refine Prod.ext ?_ ?_
  · show Scalar.select _ _ _ = _
    rw [select_eq]
    exact if_congr e4 rfl rfl
  · show Scalar.select _ _ _ = _
    rw [select_eq, apply_ite (BitVec.ofNat 32)]
    refine if_congr ?_ rfl rfl
    rw [ori_iff, e4, andi_iff, oeq_iff, slt_iff a b ha hb]

theorem bot_splat {s : Shape} (i : s.Idx) : constant (F := Ideal) s .f32 0xFF800000#32 i = (⊥ : EReal) := bot_word

/-- The reference's result of a row: the entry there is greatest, and it is the first such. -/
theorem refOut_spec (A : FVec Ideal S128x100000 .f32) (c : Fin 128) :
    ∃ n : Fin 100000, refOut (F := Ideal) A (ix1 c) = BitVec.ofNat 32 n.val
      ∧ ∀ k : Fin 100000, (A (ix2 c k) : EReal) ≤ A (ix2 c n) ∧ ((A (ix2 c k) : EReal) = A (ix2 c n) → n.val ≤ k.val) := by
  have dr : ∀ k : Fin 100000, reducesTo_S128x100000_S128_d1.drop (ix2 c k) = ix1 c := fun k => by
    funext b
    match b with
    | ⟨0, _⟩ => exact Fin.ext (ref_drop (ix2 c k))
  obtain ⟨i, hi, e, h⟩ := argReduce_best (reducer_argmax_f32_i32 (F := Ideal)) ref_step A (iotaInDim S128x100000 32 1) (fun i => (i 1).val)
    (fun _ => rfl) (fun i => by have h : (i 1).val < 100000 := (i 1).isLt; omega) (constant (F := Ideal) S_ .f32 0xFF800000#32)
    (constantI S_ 32 0#32) bot_splat (fun _ => rfl)
    reducesTo_S128x100000_S128_d1 h_S_ (ix1 c) (ix2 c 0) (dr 0) rfl
  have ei : i = ix2 c (i 1) := by
    funext b
    match b with
    | ⟨1, _⟩ => rfl
    | ⟨0, _⟩ =>
      refine Fin.ext ?_
      have := ref_drop i
      rw [hi] at this
      exact this.symm
  refine ⟨i 1, by rw [refOut_eq]; exact congrArg Prod.snd e, fun k => ?_⟩
  have := h (ix2 c k) (dr k)
  rw [ei] at this
  exact this

end Cert.Proof

end

end
-- ==== Proof.Value.lean ====
/-
  The program's result is the reference's: over the extended reals the host puts together what the two kernels found into
  the first greatest entry of each column of the transposed table, which is the entry the reference finds in each row.
-/
module

public import proofs.«01_k».proof.Proof.Found
public import proofs.«01_k».proof.Proof.FoundTC
public import proofs.«01_k».proof.Proof.Host
public import proofs.«01_k».proof.Proof.RefBest
public import proofs.«01_k».proof.Proof.Launch

@[expose] public section

noncomputable section

namespace Cert.Proof

open Cert.KernelIdeal Cert.KernelIdeal.Gen
open Idealize.ShloMosaic
open Idealize.ShloMosaic.ValueIdx (ix1 ix2 ix3 ix4 eq_ix1 eq_ix2 eq_ix3)

/-! ## What each reduction drops -/

theorem tiles_drop (i : S32x128.Idx) : (reducesTo_S32x128_S128_d0.drop i 0).val = (i 1).val :=
  Shape.ReducesTo.drop_apply_val_of_eq reducesTo_S32x128_S128_d0 i 0 1 (by decide) (by decide)
attribute [local irreducible] List.finRange

/-! ## The best tile -/

theorem argmax_step : IsArgMax (Cert.KernelIdeal.reducer_argmax_f32_i32 (F := Ideal)) := fun u v a b ha hb => by
  have e4 : IntOp.ori (FloatOps.cmpf (F := Ideal) (φ := .f32) .ogt u v) (FloatOps.cmpf (F := Ideal) (φ := .f32) .une u u) = 1#1 ↔ v < u := by
    rw [ori_iff, ogt_iff, une_zero]; simp
  show ((Scalar.select (IntOp.ori (FloatOps.cmpf (F := Ideal) (φ := .f32) .ogt u v) (FloatOps.cmpf (F := Ideal) (φ := .f32) .une u u)) u v,
    Scalar.select (IntOp.ori (IntOp.ori (FloatOps.cmpf (F := Ideal) (φ := .f32) .ogt u v) (FloatOps.cmpf (F := Ideal) (φ := .f32) .une u u))
      (IntOp.andi (FloatOps.cmpf (F := Ideal) (φ := .f32) .oeq u v) (IntOp.cmpi .slt (BitVec.ofNat 32 a) (BitVec.ofNat 32 b)))) (BitVec.ofNat 32 a) (BitVec.ofNat 32 b)) :
      EReal × BitVec 32) = _
  refine Prod.ext ?_ ?_
  · show Scalar.select _ _ _ = _
    rw [select_eq]
    exact if_congr e4 rfl rfl
  · show Scalar.select _ _ _ = _
    rw [select_eq, apply_ite (BitVec.ofNat 32)]
    refine if_congr ?_ rfl rfl
    rw [ori_iff, e4, andi_iff, oeq_iff, slt_iff a b ha hb]

/-- The best tile of a column: its entry is greatest, and it is the first such. -/
theorem bestTile_spec (Z : FVec Ideal S32x128 .f32) (c : Fin 128) :
    ∃ w : Fin 32, bestTile (F := Ideal) Z (ix1 c) = BitVec.ofNat 32 w.val
      ∧ ∀ k : Fin 32, (Z (ix2 k c) : EReal) ≤ Z (ix2 w c) ∧ ((Z (ix2 k c) : EReal) = Z (ix2 w c) → w.val ≤ k.val) := by
  have dr : ∀ k : Fin 32, reducesTo_S32x128_S128_d0.drop (ix2 k c) = ix1 c := fun k => by
    funext b
    match b with
    | ⟨0, _⟩ => exact Fin.ext (tiles_drop (ix2 k c))
  obtain ⟨i, hi, e, h⟩ := argReduce_best (Cert.KernelIdeal.reducer_argmax_f32_i32 (F := Ideal)) argmax_step Z (iotaInDim S32x128 32 0) (fun i => (i 0).val)
    (fun _ => rfl) (fun i => by have h : (i 0).val < 32 := (i 0).isLt; omega) (constant (F := Ideal) S_ .f32 0xFF800000#32) (constantI S_ 32 0#32) bot_splat (fun _ => rfl)
    reducesTo_S32x128_S128_d0 h_S_ (ix1 c) (ix2 0 c) (dr 0) rfl
  have ei : i = ix2 (i 0) c := by
    funext b
    match b with
    | ⟨0, _⟩ => rfl
    | ⟨1, _⟩ =>
      refine Fin.ext ?_
      have := tiles_drop i
      rw [hi] at this
      exact this.symm
  refine ⟨i 0, congrArg Prod.snd e, fun k => ?_⟩
  have := h (ix2 k c) (dr k)
  rw [ei] at this
  exact this

/-! ## The host's choice -/

theorem maxPlane_apply (O : FVec Ideal S32x2x8x16 .f32) (w : Fin 32) (c : Fin 128) :
    maxPlane (F := Ideal) O (ix2 w c) = O (ix4 w 0 (⟨c.val / 16, by omega⟩ : Fin 8) (⟨c.val % 16, by omega⟩ : Fin 16)) := by
  unfold maxPlane
  rw [shapeCast_apply _ _ (ix2 w c) (ix3 w (⟨c.val / 16, by omega⟩ : Fin 8) (⟨c.val % 16, by omega⟩ : Fin 16))
      (by rw [Shape.rowMajor_val_three, Shape.rowMajor_val_two]; show (w.val * 8 + c.val / 16) * 16 + c.val % 16 = w.val * 128 + c.val; omega),
    shapeCast_apply _ _ _ (ix4 w (0 : Fin 1) (⟨c.val / 16, by omega⟩ : Fin 8) (⟨c.val % 16, by omega⟩ : Fin 16))
      (by rw [Shape.rowMajor_val_three, Shape.rowMajor_val_four]; show ((w.val * 1 + 0) * 8 + c.val / 16) * 16 + c.val % 16 = (w.val * 8 + c.val / 16) * 16 + c.val % 16; omega)]
  exact extractStridedSlice_apply _ _ _ _ _ fun a => match a with
    | ⟨0, _⟩ => (Nat.zero_add _).symm
    | ⟨1, _⟩ => rfl
    | ⟨2, _⟩ => (Nat.zero_add _).symm
    | ⟨3, _⟩ => (Nat.zero_add _).symm

theorem rowPlane_apply (O : FVec Ideal S32x2x8x16 .f32) (w : Fin 32) (c : Fin 128) :
    rowPlane (F := Ideal) O (ix2 w c) = O (ix4 w 1 (⟨c.val / 16, by omega⟩ : Fin 8) (⟨c.val % 16, by omega⟩ : Fin 16)) := by
  unfold rowPlane
  rw [shapeCast_apply _ _ (ix2 w c) (ix3 w (⟨c.val / 16, by omega⟩ : Fin 8) (⟨c.val % 16, by omega⟩ : Fin 16))
      (by rw [Shape.rowMajor_val_three, Shape.rowMajor_val_two]; show (w.val * 8 + c.val / 16) * 16 + c.val % 16 = w.val * 128 + c.val; omega),
    shapeCast_apply _ _ _ (ix4 w (0 : Fin 1) (⟨c.val / 16, by omega⟩ : Fin 8) (⟨c.val % 16, by omega⟩ : Fin 16))
      (by rw [Shape.rowMajor_val_three, Shape.rowMajor_val_four]; show ((w.val * 1 + 0) * 8 + c.val / 16) * 16 + c.val % 16 = (w.val * 8 + c.val / 16) * 16 + c.val % 16; omega)]
  exact extractStridedSlice_apply _ _ _ _ _ fun a => match a with
    | ⟨0, _⟩ => (Nat.zero_add _).symm
    | ⟨1, _⟩ => rfl
    | ⟨2, _⟩ => (Nat.zero_add _).symm
    | ⟨3, _⟩ => (Nat.zero_add _).symm

theorem accRow0_apply (Y : FVec Ideal S2x128 .f32) (c : Fin 128) : accRow0 (F := Ideal) Y (ix1 c) = Y (ix2 0 c) := by
  unfold accRow0
  rw [shapeCast_apply _ _ (ix1 c) (ix2 (0 : Fin 1) c) (by rw [Shape.rowMajor_val_two, Shape.rowMajor_val_one]; show 0 * 128 + c.val = c.val; omega)]
  exact extractStridedSlice_apply _ _ _ _ _ fun a => match a with
    | ⟨0, _⟩ => rfl
    | ⟨1, _⟩ => (Nat.zero_add _).symm
theorem accRow1_apply (Y : FVec Ideal S2x128 .f32) (c : Fin 128) : accRow1 (F := Ideal) Y (ix1 c) = Y (ix2 1 c) := by
  unfold accRow1
  rw [shapeCast_apply _ _ (ix1 c) (ix2 (0 : Fin 1) c) (by rw [Shape.rowMajor_val_two, Shape.rowMajor_val_one]; show 0 * 128 + c.val = c.val; omega)]
  exact extractStridedSlice_apply _ _ _ _ _ fun a => match a with
    | ⟨0, _⟩ => rfl
    | ⟨1, _⟩ => (Nat.zero_add _).symm

/-- A fold of `and` over ones is one. -/
theorem and_fold {ι : Type} (f : ι → BitVec 1) (l : List ι) (h : ∀ i, f i = 1#1) : l.foldl (fun r i => IntOp.andi r (f i)) 1#1 = 1#1 := by
  induction l with
  | nil => rfl
  | cons i l ih => rw [List.foldl_cons, h i]; exact ih

variable (v : IVec S128 32) (hv : ∀ c : Fin 128, ∃ w : Fin 32, v (ix1 c) = BitVec.ofNat 32 w.val)

include hv in
/-- Indices that are rows are not wrapped round. -/
theorem wrapped_apply (y : S1x128x1.Idx) : wrapped (asRow v) y = v (ix1 (y 1)) := by
  have h0 : (y 0).val < 1 := (y 0).isLt
  have h2 : (y 2).val < 1 := (y 2).isLt
  have ha : asRow v (ix2 (0 : Fin 1) (y 1)) = v (ix1 (y 1)) := broadcastInDim_apply _ _ _ _ _ fun a => match a with | ⟨0, _⟩ => rfl
  unfold wrapped
  refine (shapeCast_apply _ _ y (ix2 (0 : Fin 1) (y 1)) (by
    rw [Shape.rowMajor_val_three, Shape.rowMajor_val_two]; show 0 * 128 + (y 1).val = ((y 0).val * 128 + (y 1).val) * 1 + (y 2).val; omega)).trans ?_
  show Scalar.select (IntOp.cmpi .slt (asRow v (ix2 (0 : Fin 1) (y 1))) 0#32) _ (asRow v (ix2 (0 : Fin 1) (y 1))) = _
  obtain ⟨w, hw⟩ := hv (y 1)
  have hw' := w.isLt
  rw [ha, hw, select_eq, if_neg]
  rw [slt_iff w.val 0 (by omega) (by omega)]
  exact Nat.not_lt_zero _

theorem row_inside : ∀ w : Fin 32, IntOp.andi (IntOp.cmpi .sge (BitVec.ofNat 32 w.val) 0#32) (IntOp.cmpi .sle (BitVec.ofNat 32 w.val) 31#32) = 1#1 := by decide

include hv in
theorem inside_one (y : S1x128.Idx) : inside (wrapped (asRow v)) y = 1#1 := by
  unfold inside
  rw [Host.reduce_eq_foldl]
  refine and_fold _ _ fun i => ?_
  show IntOp.andi (IntOp.cmpi .sge (wrapped (asRow v) i) 0#32) (IntOp.cmpi .sle (wrapped (asRow v) i) 31#32) = 1#1
  obtain ⟨w, hw⟩ := hv (i 1)
  rw [wrapped_apply v hv, hw]
  exact row_inside w

include hv in
/-- In each column the entry at that column's index. -/
theorem takeAlong_apply (Z : FVec Ideal S32x128 .f32) (c : Fin 128) (w : Fin 32) (hw : v (ix1 c) = BitVec.ofNat 32 w.val) :
    takeAlong (F := Ideal) Z (asRow v) (ix1 c) = Z (ix2 w c) := by
  unfold takeAlong
  rw [shapeCast_apply _ _ (ix1 c) (ix2 (0 : Fin 1) c) (by rw [Shape.rowMajor_val_two, Shape.rowMajor_val_one]; show 0 * 128 + c.val = c.val; omega)]
  show Scalar.select (inside (wrapped (asRow v)) (ix2 (0 : Fin 1) c)) (Host.gather gather_S32x128_S1x128x1_S1x128_n_0_1_1_0_2_11 Z (wrapped (asRow v)) (ix2 (0 : Fin 1) c)) _ = _
  rw [inside_one v hv, select_eq, if_pos rfl]
  refine (ValueIdx.gather_take_rows_apply (by decide) _ Z (wrapped (asRow v)) (ix2 (0 : Fin 1) c)).trans ?_
  refine congrArg Z ?_
  have hw' := w.isLt
  have e : wrapped (asRow v) (ValueIdx.takeIdx (ix2 (0 : Fin 1) c)) = BitVec.ofNat 32 w.val := (wrapped_apply v hv _).trans hw
  funext a
  match a with
  | ⟨0, _⟩ =>
    refine Fin.ext ?_
    show min (wrapped (asRow v) (ValueIdx.takeIdx (ix2 (0 : Fin 1) c))).toInt.toNat (32 - 1) = w.val
    rw [e, toInt_ofNat _ (by omega)]
    omega
  | ⟨1, _⟩ => rfl

/-! ## The tiles together -/

variable (X : FVec Ideal S100000x128 .f32) (c : Fin 128)

theorem tile_at (w : Fin 32) :
    ∃ n : ℕ, rowPlane (F := Ideal) (outOf (F := Ideal) X) (ix2 w c) = (((n : ℝ) : EReal))
      ∧ Best (fun r => cell (F := Ideal) X r c.val) (fun r => 1472 * w.val ≤ r ∧ r < 1472 * w.val + 1472) (maxPlane (F := Ideal) (outOf (F := Ideal) X) (ix2 w c)) n := by
  rw [maxPlane_apply, rowPlane_apply]
  exact out_best X w c

/-- Of the tiles' maxima the greatest, the first of them, is the maximum over all the tiles' rows. -/
theorem join_tiles (x : ℕ → EReal) (M : Fin 32 → EReal)
    (hM : ∀ w, ∃ n, Best x (fun r => 1472 * w.val ≤ r ∧ r < 1472 * w.val + 1472) (M w) n) (w : Fin 32) (n : ℕ)
    (b : Best x (fun r => 1472 * w.val ≤ r ∧ r < 1472 * w.val + 1472) (M w) n) (hw : ∀ k, M k ≤ M w ∧ (M k = M w → w.val ≤ k.val)) :
    Best x (fun r => r < 47104) (M w) n := by
  obtain ⟨⟨n1, n2⟩, hn, hk⟩ := b
  have w32 := w.isLt
  refine ⟨by omega, hn, fun k hk' => ?_⟩
  obtain ⟨u, hu⟩ : ∃ u : Fin 32, u.val = k / 1472 := ⟨⟨k / 1472, by omega⟩, rfl⟩
  obtain ⟨n', -, -, hq⟩ := hM u
  obtain ⟨a, -⟩ := hq k ⟨by omega, by omega⟩
  obtain ⟨p, q⟩ := hw u
  refine ⟨a.trans p, fun t => ?_⟩
  have t1 : M u = M w := le_antisymm p (t ▸ a)
  have := q t1
  rcases Nat.lt_or_ge w.val u.val with l | l
  · omega
  · have l' : u = w := Fin.ext (by omega)
    subst l'
    exact (hk k ⟨by omega, by omega⟩).2 t

/-- The best tile's maximum and row are those of all the tiles' rows. -/
theorem planes_best (x : ℕ → EReal) (M R : FVec Ideal S32x128 .f32) (c : Fin 128)
    (h : ∀ w : Fin 32, ∃ n : ℕ, R (ix2 w c) = (((n : ℝ) : EReal)) ∧ Best x (fun r => 1472 * w.val ≤ r ∧ r < 1472 * w.val + 1472) (M (ix2 w c)) n) :
    ∃ n : ℕ, takeAlong (F := Ideal) R (asRow (bestTile (F := Ideal) M)) (ix1 c) = (((n : ℝ) : EReal))
      ∧ Best x (fun r => r < 47104) (takeAlong (F := Ideal) M (asRow (bestTile (F := Ideal) M)) (ix1 c)) n := by
  have hv : ∀ c : Fin 128, ∃ w : Fin 32, bestTile (F := Ideal) M (ix1 c) = BitVec.ofNat 32 w.val := fun c => by
    obtain ⟨w, e, _⟩ := bestTile_spec M c
    exact ⟨w, e⟩
  obtain ⟨w, e, hw⟩ := bestTile_spec M c
  obtain ⟨n, en, b⟩ := h w
  have tR := takeAlong_apply _ hv R c w e
  have tM := takeAlong_apply _ hv M c w e
  refine ⟨n, tR.trans en, ?_⟩
  rw [tM]
  exact join_tiles x (fun w => M (ix2 w c)) (fun w => (h w).imp fun _ t => t.2) w n b hw

theorem tiles_best :
    ∃ n : ℕ, takeAlong (F := Ideal) (rowPlane (outOf (F := Ideal) X)) (asRow (bestTile (F := Ideal) (maxPlane (outOf (F := Ideal) X)))) (ix1 c) = (((n : ℝ) : EReal))
      ∧ Best (fun r => cell (F := Ideal) X r c.val) (fun r => r < 47104) (takeAlong (F := Ideal) (maxPlane (outOf (F := Ideal) X)) (asRow (bestTile (F := Ideal) (maxPlane (outOf (F := Ideal) X)))) (ix1 c)) n :=
  planes_best _ _ _ c (tile_at X c)

/-! ## The result -/

/-- The program's result of a column is the first row of its greatest entry. -/
theorem outR_best (A : FVec Ideal S128x100000 .f32) (c : Fin 128) :
    ∃ (v : EReal) (n : ℕ), outR (F := Ideal) A (ix1 c) = BitVec.ofNat 32 n ∧ Best (fun r => cell (F := Ideal) (transp A) r c.val) (fun r => r < 100000) v n := by
  obtain ⟨n, e, b⟩ := tiles_best (transp A) c
  obtain ⟨n', e', b'⟩ := acc_best c (transp A) 13 (by decide)
  have e1 := accRow1_apply (accOf (F := Ideal) (transp A) 13 (by decide)) c
  have e0 := accRow0_apply (accOf (F := Ideal) (transp A) 13 (by decide)) c
  unfold outR hostOut better
  generalize takeAlong (F := Ideal) (rowPlane (outOf (F := Ideal) (transp A))) (asRow (bestTile (F := Ideal) (maxPlane (outOf (F := Ideal) (transp A))))) = rw at e ⊢
  generalize takeAlong (F := Ideal) (maxPlane (outOf (F := Ideal) (transp A))) (asRow (bestTile (F := Ideal) (maxPlane (outOf (F := Ideal) (transp A))))) = mx at b ⊢
  generalize accOf (F := Ideal) (transp A) 13 (by decide) = Y at e' b' e1 e0 ⊢
  have hn : n < 47104 := b.1
  have hn' := b'.1.2
  have u : ∀ r, (r < 47104 ∨ (44000 ≤ r ∧ r < 44000 + 4000 * (13 + 1))) ↔ r < 100000 := fun r => by omega
  show ∃ (v : EReal) (k : ℕ), FloatOps.fptosi (F := Ideal) (φ := .f32) 32 (Scalar.select (IntOp.ori (FloatOps.cmpf (F := Ideal) .ogt (accRow0 (F := Ideal) Y (ix1 c)) (mx (ix1 c)))
    (IntOp.andi (FloatOps.cmpf (F := Ideal) .oeq (accRow0 (F := Ideal) Y (ix1 c)) (mx (ix1 c))) (FloatOps.cmpf (F := Ideal) .olt (accRow1 (F := Ideal) Y (ix1 c)) (rw (ix1 c)))))
    (accRow1 (F := Ideal) Y (ix1 c)) (rw (ix1 c))) = BitVec.ofNat 32 k ∧ _
  rw [e1, e0, select_eq]
  have hc : IntOp.ori (FloatOps.cmpf (F := Ideal) (φ := .f32) .ogt (Y (ix2 0 c)) (mx (ix1 c)))
      (IntOp.andi (FloatOps.cmpf (F := Ideal) (φ := .f32) .oeq (Y (ix2 0 c)) (mx (ix1 c))) (FloatOps.cmpf (F := Ideal) (φ := .f32) .olt (Y (ix2 1 c)) (rw (ix1 c)))) = 1#1
      ↔ ((mx (ix1 c) : EReal) < Y (ix2 0 c) ∨ (Y (ix2 0 c) : EReal) = mx (ix1 c) ∧ n' < n) := by
    rw [ori_iff, andi_iff, ogt_iff, oeq_iff, olt_iff, e, e', nat_lt_iff]
  by_cases t : IntOp.ori (FloatOps.cmpf (F := Ideal) (φ := .f32) .ogt (Y (ix2 0 c)) (mx (ix1 c)))
      (IntOp.andi (FloatOps.cmpf (F := Ideal) (φ := .f32) .oeq (Y (ix2 0 c)) (mx (ix1 c))) (FloatOps.cmpf (F := Ideal) (φ := .f32) .olt (Y (ix2 1 c)) (rw (ix1 c)))) = 1#1
  · refine ⟨Y (ix2 0 c), n', ?_, (b.right b' (hc.mp t)).congr u⟩
    rw [if_pos t, e']
    exact fptosi_nat n' (by omega)
  · refine ⟨mx (ix1 c), n, ?_, (b.left b' (fun h => t (hc.mpr h))).congr u⟩
    rw [if_neg t, e]
    exact fptosi_nat n (by omega)

/-- The program's result is the reference's. -/
theorem outR_eq (A : FVec Ideal S128x100000 .f32) : outR (F := Ideal) A = refOut (F := Ideal) A := by
  funext j
  rw [eq_ix1 j]
  obtain ⟨v, n, e, b⟩ := outR_best A (j 0)
  obtain ⟨k, e', h⟩ := refOut_spec A (j 0)
  have hc : ∀ r : Fin 100000, cell (F := Ideal) (transp A) r.val (j 0).val = A (ix2 (j 0) r) := fun r => by
    refine congrArg A (funext fun a => Fin.ext ?_)
    match a with
    | ⟨0, _⟩ => exact Nat.mod_eq_of_lt (j 0).isLt
    | ⟨1, _⟩ => exact Nat.mod_eq_of_lt r.isLt
  have b' : Best (fun r => cell (F := Ideal) (transp A) r (j 0).val) (fun r => r < 100000) (A (ix2 (j 0) k)) k.val := by
    refine ⟨k.isLt, hc k, fun r hr => ?_⟩
    have := h ⟨r, hr⟩
    rw [← hc ⟨r, hr⟩] at this
    exact this
  refine e.trans (Eq.trans ?_ e'.symm)
  rw [b.unique b']

end Cert.Proof

end

end
-- ==== Proof.Equal.lean ====
/-
  The value claim: from equal arguments the program and the reference end with equal results.
-/
module

public import proofs.«01_k».proof.Proof.Value
public import proofs.«01_k».proof.Proof.Frames

@[expose] public section

noncomputable section

namespace Cert.Proof

open Idealize.ShloMosaic Idealize.SL.Sem

/-- The program's run with its result named. -/
theorem run_value {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) Cert.KernelIdeal.threads ⟨m, fun _ => 0, ρ⟩
      fun r => ∀ c : Dev Cert.KernelIdeal.nD, r.2.mem (rLoc c) = outR (m (aLoc c)) ∧ r.2.mem (aLoc c) = m (aLoc c) :=
  (θ_run Cert.KernelIdeal.defs _ _).mono (fun _ h c => ⟨(h.1 c).2, (h.1 c).1⟩) (run_main m ρ)

/-- The reference's run with its result replaced by an equal one. -/
theorem ref_value {F : FTy → Type} [FloatOps F]
    (m : (ℓ : Loc Cert.ReferenceIdeal.nD Cert.ReferenceIdeal.τ Cert.ReferenceIdeal.sig) → Buf (Elt F) ℓ) (ρ : Dev Cert.ReferenceIdeal.nD → PrngReg)
    (w : Dev Cert.ReferenceIdeal.nD → IVec Cert.ReferenceIdeal.S128 32)
    (hw : ∀ c : Dev Cert.ReferenceIdeal.nD, refOut (F := F) (m ((c.tc : Thread Cert.ReferenceIdeal.nD Cert.ReferenceIdeal.τ).loc Cert.ReferenceIdeal.main_arg0)) = w c) :
    θ_run (Cert.ReferenceIdeal.defs (F := F)) (onTc (τ := Cert.ReferenceIdeal.τ) (Cert.ReferenceIdeal.main (F := F))) ⟨m, fun _ => 0, ρ⟩
      fun r => ∀ c : Dev Cert.ReferenceIdeal.nD,
        r.2.mem ((c.tc : Thread Cert.ReferenceIdeal.nD Cert.ReferenceIdeal.τ).loc Cert.ReferenceIdeal.main_v0) = w c
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0) :=
  (θ_run Cert.ReferenceIdeal.defs _ _).mono (fun _ h c => ⟨(h c).2.trans (hw c), (h c).1⟩) (ref_run m ρ)

/-- The program's results are the reference's. -/
theorem equal : Cert.algebraic_KernelIdeal_ReferenceIdeal (hKernelIdeal := Cert.KernelIdeal.Gen.facts) (hReferenceIdeal := Cert.ReferenceIdeal.Gen.facts) :=
  fun m g m' g' _ hm => ⟨fun c => outR (F := Ideal) (m (aLoc c)), run_value (F := Ideal) m g,
    ref_value (F := Ideal) m' g' (fun c => outR (F := Ideal) (m (aLoc c))) fun c => by
      rw [hm c]
      exact (outR_eq (m (aLoc c))).symm⟩

end Cert.Proof

end

end
-- ==== Proof.lean ====
/-
  The certificate's claim: the frames of the kernel, of its idealization and of the reference, and the equality of the
  idealization's results with the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Equal

@[expose] public section

namespace Cert.Proof

theorem claim : Cert.Claim :=
  ⟨Cert.Kernel.Gen.facts, Cert.KernelIdeal.Gen.facts, Cert.ReferenceIdeal.Gen.facts, frame_kernel, frame_ideal, frame_reference, trivial, equal⟩

end Cert.Proof

end
